-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x256 : Shape := ⟨2, ![1024, 256]⟩
abbrev S256x64 : Shape := ⟨2, ![256, 64]⟩
abbrev S1024x2 : Shape := ⟨2, ![1024, 2]⟩
abbrev S4x256x512 : Shape := ⟨3, ![4, 256, 512]⟩
abbrev S_ : Shape := ⟨0, ![]⟩

class Facts : Prop where
  bcast_S_S1024x256 : S_.BroadcastsInDim S1024x256 (![] : Fin 0 → Fin S1024x256.rank)
  bcast_S_S256x64 : S_.BroadcastsInDim S256x64 (![] : Fin 0 → Fin S256x64.rank)
  bcast_S_S1024x2 : S_.BroadcastsInDim S1024x2 (![] : Fin 0 → Fin S1024x2.rank)

variable [Facts]

def fn {F : FTy → Type} [FloatOps F] (main_arg0 : FVec F S1024x256 .f32) (main_arg1 : FVec F S256x64 .f32) (main_arg2 : IVec S1024x2 32) (main_arg3 : FVec F S4x256x512 .f32) : IVec S1024x256 1 × IVec S256x64 1 × IVec S1024x2 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_v3 : FVec F S256x64 .f32 := Host.absf main_arg1
  let main_cst_0 : FVec F S_ .f32 := constant S_ .f32 0x7F800000#32
  let main_v4 : FVec F S256x64 .f32 := broadcastInDim S256x64 ![] bcast_S_S256x64 main_cst_0
  let main_v5 : IVec S256x64 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 64#32
  let main_v8 : IVec S1024x2 32 := broadcastInDim S1024x2 ![] bcast_S_S1024x2 main_c_1
  let main_v9 : IVec S1024x2 1 := cmpi .slt main_arg2 main_v8
  let main_v10 : IVec S1024x2 1 := andi main_v7 main_v9
  (main_v2, main_v5, main_v10)
-- ==== Pre_routed_ReferenceIdeal.lean ====
abbrev S1024x256 : Shape := ⟨2, ![1024, 256]⟩
abbrev S256x64 : Shape := ⟨2, ![256, 64]⟩
abbrev S1024x2 : Shape := ⟨2, ![1024, 2]⟩
abbrev S64x256x512 : Shape := ⟨3, ![64, 256, 512]⟩
abbrev S_ : Shape := ⟨0, ![]⟩

class Facts : Prop where
  bcast_S_S1024x256 : S_.BroadcastsInDim S1024x256 (![] : Fin 0 → Fin S1024x256.rank)
  bcast_S_S256x64 : S_.BroadcastsInDim S256x64 (![] : Fin 0 → Fin S256x64.rank)
  bcast_S_S1024x2 : S_.BroadcastsInDim S1024x2 (![] : Fin 0 → Fin S1024x2.rank)

variable [Facts]

def fn {F : FTy → Type} [FloatOps F] (main_arg0 : FVec F S1024x256 .f32) (main_arg1 : FVec F S256x64 .f32) (main_arg2 : IVec S1024x2 32) (main_arg3 : FVec F S64x256x512 .f32) : IVec S1024x256 1 × IVec S256x64 1 × IVec S1024x2 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_v3 : FVec F S256x64 .f32 := Host.absf main_arg1
  let main_cst_0 : FVec F S_ .f32 := constant S_ .f32 0x7F800000#32
  let main_v4 : FVec F S256x64 .f32 := broadcastInDim S256x64 ![] bcast_S_S256x64 main_cst_0
  let main_v5 : IVec S256x64 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 64#32
  let main_v8 : IVec S1024x2 32 := broadcastInDim S1024x2 ![] bcast_S_S1024x2 main_c_1
  let main_v9 : IVec S1024x2 1 := cmpi .slt main_arg2 main_v8
  let main_v10 : IVec S1024x2 1 := andi main_v7 main_v9
  (main_v2, main_v5, main_v10)
-- ==== Kernel.lean ====
abbrev S1024x256 : Shape := ⟨2, ![1024, 256]⟩
abbrev S256x64 : Shape := ⟨2, ![256, 64]⟩
abbrev S1024x2 : Shape := ⟨2, ![1024, 2]⟩
abbrev S4x256x512 : Shape := ⟨3, ![4, 256, 512]⟩
abbrev S1024x512 : Shape := ⟨2, ![1024, 512]⟩
abbrev S16x64x512 : Shape := ⟨3, ![16, 64, 512]⟩
abbrev S16 : Shape := ⟨1, ![16]⟩
abbrev S_ : Shape := ⟨0, ![]⟩
abbrev S1024x64 : Shape := ⟨2, ![1024, 64]⟩
abbrev S1024x1 : Shape := ⟨2, ![1024, 1]⟩
abbrev S1024 : Shape := ⟨1, ![1024]⟩
abbrev S1x256x512 : Shape := ⟨3, ![1, 256, 512]⟩
abbrev S256x512 : Shape := ⟨2, ![256, 512]⟩
abbrev S1 : Shape := ⟨1, ![1]⟩
abbrev S1x64x512 : Shape := ⟨3, ![1, 64, 512]⟩
abbrev S64x512 : Shape := ⟨2, ![64, 512]⟩

abbrev nBuf : Space → Nat
  | .hbm => 5
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S1024x2, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S256x64, .f32⟩
  | .local _ .vmem, ⟨2, _⟩ => ⟨S1024x2, .i32⟩
  | .local _ .vmem, ⟨3, _⟩ => ⟨S4x256x512, .f32⟩
  | .local _ .vmem, ⟨4, _⟩ => ⟨S1024x512, .f32⟩
  | .local _ .vmem, ⟨5, _⟩ => ⟨S1024x512, .f32⟩
  | .local _ .vmem, ⟨6, _⟩ => ⟨S16x64x512, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_177 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v304 : BitVec 32 := Scalar.addi v2 c1_i32_177
  let c16_i32_178 : BitVec 32 := 16#32
  let c0_i32_179 : BitVec 32 := 0#32
  let v305 : BitVec 1 := Scalar.cmpi .eq c16_i32_178 c0_i32_179
  let c1_i32_180 : BitVec 32 := 1#32
  let v306 : BitVec 32 := Scalar.select v305 c1_i32_180 c16_i32_178
  let v307 : BitVec 32 := Scalar.remsi v304 v306
  let c0_i32_182 : BitVec 32 := 0#32
  let v309 : BitVec 1 := Scalar.cmpi .slt v307 c0_i32_182
  let c0_i32_183 : BitVec 32 := 0#32
  let v310 : BitVec 1 := Scalar.cmpi .slt v306 c0_i32_183
  let v311 : BitVec 1 := Scalar.xori v309 v310
  let c0_i32_181 : BitVec 32 := 0#32
  let v308 : BitVec 1 := Scalar.cmpi .ne v307 c0_i32_181
  let v312 : BitVec 1 := Scalar.andi v311 v308
  let v313 : BitVec 32 := Scalar.addi v307 v306
  let v314 : BitVec 32 := Scalar.select v312 v313 v307
  let c64_i32 : BitVec 32 := 64#32
  let v315 : BitVec 32 := Scalar.muli v314 c64_i32
  let c0_i32_191 : BitVec 32 := 0#32
  ![v315.toNat, 0]
def k0_dev16 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_177 : BitVec 32 := 1#32
  let v304 : BitVec 32 := Scalar.addi v2 c1_i32_177
  let c16_i32_178 : BitVec 32 := 16#32
  let c0_i32_179 : BitVec 32 := 0#32
  let v305 : BitVec 1 := Scalar.cmpi .eq c16_i32_178 c0_i32_179
  let c1_i32_180 : BitVec 32 := 1#32
  let v306 : BitVec 32 := Scalar.select v305 c1_i32_180 c16_i32_178
  let v307 : BitVec 32 := Scalar.remsi v304 v306
  let c0_i32_182 : BitVec 32 := 0#32
  let v309 : BitVec 1 := Scalar.cmpi .slt v307 c0_i32_182
  let c0_i32_183 : BitVec 32 := 0#32
  let v310 : BitVec 1 := Scalar.cmpi .slt v306 c0_i32_183
  let v311 : BitVec 1 := Scalar.xori v309 v310
  let c0_i32_181 : BitVec 32 := 0#32
  let v308 : BitVec 1 := Scalar.cmpi .ne v307 c0_i32_181
  let v312 : BitVec 1 := Scalar.andi v311 v308
  let v313 : BitVec 32 := Scalar.addi v307 v306
  let v314 : BitVec 32 := Scalar.select v312 v313 v307
  let c1_i32_187 : BitVec 32 := 1#32
  let v316 : BitVec 32 := Scalar.muli v314 c1_i32_187
  let v317 : BitVec 32 := Scalar.addi c0_i32_188 v316
  v317.toNat
def k0_dev17 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_192 : BitVec 32 := 2#32
  let v325 : BitVec 32 := Scalar.addi v2 c2_i32_192
  let c16_i32_193 : BitVec 32 := 16#32
  let c0_i32_194 : BitVec 32 := 0#32
  let v326 : BitVec 1 := Scalar.cmpi .eq c16_i32_193 c0_i32_194
  let c1_i32_195 : BitVec 32 := 1#32
  let v327 : BitVec 32 := Scalar.select v326 c1_i32_195 c16_i32_193
  let v328 : BitVec 32 := Scalar.remsi v325 v327
  let c0_i32_197 : BitVec 32 := 0#32
  let v330 : BitVec 1 := Scalar.cmpi .slt v328 c0_i32_197
  let c0_i32_198 : BitVec 32 := 0#32
  let v331 : BitVec 1 := Scalar.cmpi .slt v327 c0_i32_198
  let v332 : BitVec 1 := Scalar.xori v330 v331
  let c0_i32_196 : BitVec 32 := 0#32
  let v329 : BitVec 1 := Scalar.cmpi .ne v328 c0_i32_196
  let v333 : BitVec 1 := Scalar.andi v332 v329
  let v334 : BitVec 32 := Scalar.addi v328 v327
  let v335 : BitVec 32 := Scalar.select v333 v334 v328
  let c1_i32_203 : BitVec 32 := 1#32
  let v337 : BitVec 32 := Scalar.muli v335 c1_i32_203
  let v338 : BitVec 32 := Scalar.addi c0_i32_204 v337
  v338.toNat
def k0_dev18 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_208 : BitVec 32 := 3#32
  let v346 : BitVec 32 := Scalar.addi v2 c3_i32_208
  let c16_i32_209 : BitVec 32 := 16#32
  let c0_i32_210 : BitVec 32 := 0#32
  let v347 : BitVec 1 := Scalar.cmpi .eq c16_i32_209 c0_i32_210
  let c1_i32_211 : BitVec 32 := 1#32
  let v348 : BitVec 32 := Scalar.select v347 c1_i32_211 c16_i32_209
  let v349 : BitVec 32 := Scalar.remsi v346 v348
  let c0_i32_213 : BitVec 32 := 0#32
  let v351 : BitVec 1 := Scalar.cmpi .slt v349 c0_i32_213
  let c0_i32_214 : BitVec 32 := 0#32
  let v352 : BitVec 1 := Scalar.cmpi .slt v348 c0_i32_214
  let v353 : BitVec 1 := Scalar.xori v351 v352
  let c0_i32_212 : BitVec 32 := 0#32
  let v350 : BitVec 1 := Scalar.cmpi .ne v349 c0_i32_212
  let v354 : BitVec 1 := Scalar.andi v353 v350
  let v355 : BitVec 32 := Scalar.addi v349 v348
  let v356 : BitVec 32 := Scalar.select v354 v355 v349
  let c1_i32_219 : BitVec 32 := 1#32
  let v358 : BitVec 32 := Scalar.muli v356 c1_i32_219
  let v359 : BitVec 32 := Scalar.addi c0_i32_220 v358
  v359.toNat
def k0_dev19 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_224 : BitVec 32 := 4#32
  let v367 : BitVec 32 := Scalar.addi v2 c4_i32_224
  let c16_i32_225 : BitVec 32 := 16#32
  let c0_i32_226 : BitVec 32 := 0#32
  let v368 : BitVec 1 := Scalar.cmpi .eq c16_i32_225 c0_i32_226
  let c1_i32_227 : BitVec 32 := 1#32
  let v369 : BitVec 32 := Scalar.select v368 c1_i32_227 c16_i32_225
  let v370 : BitVec 32 := Scalar.remsi v367 v369
  let c0_i32_229 : BitVec 32 := 0#32
  let v372 : BitVec 1 := Scalar.cmpi .slt v370 c0_i32_229
  let c0_i32_230 : BitVec 32 := 0#32
  let v373 : BitVec 1 := Scalar.cmpi .slt v369 c0_i32_230
  let v374 : BitVec 1 := Scalar.xori v372 v373
  let c0_i32_228 : BitVec 32 := 0#32
  let v371 : BitVec 1 := Scalar.cmpi .ne v370 c0_i32_228
  let v375 : BitVec 1 := Scalar.andi v374 v371
  let v376 : BitVec 32 := Scalar.addi v370 v369
  let v377 : BitVec 32 := Scalar.select v375 v376 v370
  let c1_i32_235 : BitVec 32 := 1#32
  let v379 : BitVec 32 := Scalar.muli v377 c1_i32_235
  let v380 : BitVec 32 := Scalar.addi c0_i32_236 v379
  v380.toNat
def k0_dev20 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_240 : BitVec 32 := 5#32
  let v388 : BitVec 32 := Scalar.addi v2 c5_i32_240
  let c16_i32_241 : BitVec 32 := 16#32
  let c0_i32_242 : BitVec 32 := 0#32
  let v389 : BitVec 1 := Scalar.cmpi .eq c16_i32_241 c0_i32_242
  let c1_i32_243 : BitVec 32 := 1#32
  let v390 : BitVec 32 := Scalar.select v389 c1_i32_243 c16_i32_241
  let v391 : BitVec 32 := Scalar.remsi v388 v390
  let c0_i32_245 : BitVec 32 := 0#32
  let v393 : BitVec 1 := Scalar.cmpi .slt v391 c0_i32_245
  let c0_i32_246 : BitVec 32 := 0#32
  let v394 : BitVec 1 := Scalar.cmpi .slt v390 c0_i32_246
  let v395 : BitVec 1 := Scalar.xori v393 v394
  let c0_i32_244 : BitVec 32 := 0#32
  let v392 : BitVec 1 := Scalar.cmpi .ne v391 c0_i32_244
  let v396 : BitVec 1 := Scalar.andi v395 v392
  let v397 : BitVec 32 := Scalar.addi v391 v390
  let v398 : BitVec 32 := Scalar.select v396 v397 v391
  let c1_i32_251 : BitVec 32 := 1#32
  let v400 : BitVec 32 := Scalar.muli v398 c1_i32_251
  let v401 : BitVec 32 := Scalar.addi c0_i32_252 v400
  v401.toNat
def k0_dev21 (d0 : Dev nD) : Nat :=
  let c0_i32_268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_256 : BitVec 32 := 6#32
  let v409 : BitVec 32 := Scalar.addi v2 c6_i32_256
  let c16_i32_257 : BitVec 32 := 16#32
  let c0_i32_258 : BitVec 32 := 0#32
  let v410 : BitVec 1 := Scalar.cmpi .eq c16_i32_257 c0_i32_258
  let c1_i32_259 : BitVec 32 := 1#32
  let v411 : BitVec 32 := Scalar.select v410 c1_i32_259 c16_i32_257
  let v412 : BitVec 32 := Scalar.remsi v409 v411
  let c0_i32_261 : BitVec 32 := 0#32
  let v414 : BitVec 1 := Scalar.cmpi .slt v412 c0_i32_261
  let c0_i32_262 : BitVec 32 := 0#32
  let v415 : BitVec 1 := Scalar.cmpi .slt v411 c0_i32_262
  let v416 : BitVec 1 := Scalar.xori v414 v415
  let c0_i32_260 : BitVec 32 := 0#32
  let v413 : BitVec 1 := Scalar.cmpi .ne v412 c0_i32_260
  let v417 : BitVec 1 := Scalar.andi v416 v413
  let v418 : BitVec 32 := Scalar.addi v412 v411
  let v419 : BitVec 32 := Scalar.select v417 v418 v412
  let c1_i32_267 : BitVec 32 := 1#32
  let v421 : BitVec 32 := Scalar.muli v419 c1_i32_267
  let v422 : BitVec 32 := Scalar.addi c0_i32_268 v421
  v422.toNat
def k0_dev22 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_272 : BitVec 32 := 7#32
  let v430 : BitVec 32 := Scalar.addi v2 c7_i32_272
  let c16_i32_273 : BitVec 32 := 16#32
  let c0_i32_274 : BitVec 32 := 0#32
  let v431 : BitVec 1 := Scalar.cmpi .eq c16_i32_273 c0_i32_274
  let c1_i32_275 : BitVec 32 := 1#32
  let v432 : BitVec 32 := Scalar.select v431 c1_i32_275 c16_i32_273
  let v433 : BitVec 32 := Scalar.remsi v430 v432
  let c0_i32_277 : BitVec 32 := 0#32
  let v435 : BitVec 1 := Scalar.cmpi .slt v433 c0_i32_277
  let c0_i32_278 : BitVec 32 := 0#32
  let v436 : BitVec 1 := Scalar.cmpi .slt v432 c0_i32_278
  let v437 : BitVec 1 := Scalar.xori v435 v436
  let c0_i32_276 : BitVec 32 := 0#32
  let v434 : BitVec 1 := Scalar.cmpi .ne v433 c0_i32_276
  let v438 : BitVec 1 := Scalar.andi v437 v434
  let v439 : BitVec 32 := Scalar.addi v433 v432
  let v440 : BitVec 32 := Scalar.select v438 v439 v433
  let c1_i32_283 : BitVec 32 := 1#32
  let v442 : BitVec 32 := Scalar.muli v440 c1_i32_283
  let v443 : BitVec 32 := Scalar.addi c0_i32_284 v442
  v443.toNat
def k0_dev23 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_288 : BitVec 32 := 8#32
  let v451 : BitVec 32 := Scalar.addi v2 c8_i32_288
  let c16_i32_289 : BitVec 32 := 16#32
  let c0_i32_290 : BitVec 32 := 0#32
  let v452 : BitVec 1 := Scalar.cmpi .eq c16_i32_289 c0_i32_290
  let c1_i32_291 : BitVec 32 := 1#32
  let v453 : BitVec 32 := Scalar.select v452 c1_i32_291 c16_i32_289
  let v454 : BitVec 32 := Scalar.remsi v451 v453
  let c0_i32_293 : BitVec 32 := 0#32
  let v456 : BitVec 1 := Scalar.cmpi .slt v454 c0_i32_293
  let c0_i32_294 : BitVec 32 := 0#32
  let v457 : BitVec 1 := Scalar.cmpi .slt v453 c0_i32_294
  let v458 : BitVec 1 := Scalar.xori v456 v457
  let c0_i32_292 : BitVec 32 := 0#32
  let v455 : BitVec 1 := Scalar.cmpi .ne v454 c0_i32_292
  let v459 : BitVec 1 := Scalar.andi v458 v455
  let v460 : BitVec 32 := Scalar.addi v454 v453
  let v461 : BitVec 32 := Scalar.select v459 v460 v454
  let c1_i32_299 : BitVec 32 := 1#32
  let v463 : BitVec 32 := Scalar.muli v461 c1_i32_299
  let v464 : BitVec 32 := Scalar.addi c0_i32_300 v463
  v464.toNat
def k0_dev24 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_304 : BitVec 32 := 9#32
  let v472 : BitVec 32 := Scalar.addi v2 c9_i32_304
  let c16_i32_305 : BitVec 32 := 16#32
  let c0_i32_306 : BitVec 32 := 0#32
  let v473 : BitVec 1 := Scalar.cmpi .eq c16_i32_305 c0_i32_306
  let c1_i32_307 : BitVec 32 := 1#32
  let v474 : BitVec 32 := Scalar.select v473 c1_i32_307 c16_i32_305
  let v475 : BitVec 32 := Scalar.remsi v472 v474
  let c0_i32_309 : BitVec 32 := 0#32
  let v477 : BitVec 1 := Scalar.cmpi .slt v475 c0_i32_309
  let c0_i32_310 : BitVec 32 := 0#32
  let v478 : BitVec 1 := Scalar.cmpi .slt v474 c0_i32_310
  let v479 : BitVec 1 := Scalar.xori v477 v478
  let c0_i32_308 : BitVec 32 := 0#32
  let v476 : BitVec 1 := Scalar.cmpi .ne v475 c0_i32_308
  let v480 : BitVec 1 := Scalar.andi v479 v476
  let v481 : BitVec 32 := Scalar.addi v475 v474
  let v482 : BitVec 32 := Scalar.select v480 v481 v475
  let c1_i32_315 : BitVec 32 := 1#32
  let v484 : BitVec 32 := Scalar.muli v482 c1_i32_315
  let v485 : BitVec 32 := Scalar.addi c0_i32_316 v484
  v485.toNat
def k0_dev25 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_320 : BitVec 32 := 10#32
  let v493 : BitVec 32 := Scalar.addi v2 c10_i32_320
  let c16_i32_321 : BitVec 32 := 16#32
  let c0_i32_322 : BitVec 32 := 0#32
  let v494 : BitVec 1 := Scalar.cmpi .eq c16_i32_321 c0_i32_322
  let c1_i32_323 : BitVec 32 := 1#32
  let v495 : BitVec 32 := Scalar.select v494 c1_i32_323 c16_i32_321
  let v496 : BitVec 32 := Scalar.remsi v493 v495
  let c0_i32_325 : BitVec 32 := 0#32
  let v498 : BitVec 1 := Scalar.cmpi .slt v496 c0_i32_325
  let c0_i32_326 : BitVec 32 := 0#32
  let v499 : BitVec 1 := Scalar.cmpi .slt v495 c0_i32_326
  let v500 : BitVec 1 := Scalar.xori v498 v499
  let c0_i32_324 : BitVec 32 := 0#32
  let v497 : BitVec 1 := Scalar.cmpi .ne v496 c0_i32_324
  let v501 : BitVec 1 := Scalar.andi v500 v497
  let v502 : BitVec 32 := Scalar.addi v496 v495
  let v503 : BitVec 32 := Scalar.select v501 v502 v496
  let c1_i32_331 : BitVec 32 := 1#32
  let v505 : BitVec 32 := Scalar.muli v503 c1_i32_331
  let v506 : BitVec 32 := Scalar.addi c0_i32_332 v505
  v506.toNat
def k0_dev26 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_336 : BitVec 32 := 11#32
  let v514 : BitVec 32 := Scalar.addi v2 c11_i32_336
  let c16_i32_337 : BitVec 32 := 16#32
  let c0_i32_338 : BitVec 32 := 0#32
  let v515 : BitVec 1 := Scalar.cmpi .eq c16_i32_337 c0_i32_338
  let c1_i32_339 : BitVec 32 := 1#32
  let v516 : BitVec 32 := Scalar.select v515 c1_i32_339 c16_i32_337
  let v517 : BitVec 32 := Scalar.remsi v514 v516
  let c0_i32_341 : BitVec 32 := 0#32
  let v519 : BitVec 1 := Scalar.cmpi .slt v517 c0_i32_341
  let c0_i32_342 : BitVec 32 := 0#32
  let v520 : BitVec 1 := Scalar.cmpi .slt v516 c0_i32_342
  let v521 : BitVec 1 := Scalar.xori v519 v520
  let c0_i32_340 : BitVec 32 := 0#32
  let v518 : BitVec 1 := Scalar.cmpi .ne v517 c0_i32_340
  let v522 : BitVec 1 := Scalar.andi v521 v518
  let v523 : BitVec 32 := Scalar.addi v517 v516
  let v524 : BitVec 32 := Scalar.select v522 v523 v517
  let c1_i32_347 : BitVec 32 := 1#32
  let v526 : BitVec 32 := Scalar.muli v524 c1_i32_347
  let v527 : BitVec 32 := Scalar.addi c0_i32_348 v526
  v527.toNat
def k0_dev27 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_352 : BitVec 32 := 12#32
  let v535 : BitVec 32 := Scalar.addi v2 c12_i32_352
  let c16_i32_353 : BitVec 32 := 16#32
  let c0_i32_354 : BitVec 32 := 0#32
  let v536 : BitVec 1 := Scalar.cmpi .eq c16_i32_353 c0_i32_354
  let c1_i32_355 : BitVec 32 := 1#32
  let v537 : BitVec 32 := Scalar.select v536 c1_i32_355 c16_i32_353
  let v538 : BitVec 32 := Scalar.remsi v535 v537
  let c0_i32_357 : BitVec 32 := 0#32
  let v540 : BitVec 1 := Scalar.cmpi .slt v538 c0_i32_357
  let c0_i32_358 : BitVec 32 := 0#32
  let v541 : BitVec 1 := Scalar.cmpi .slt v537 c0_i32_358
  let v542 : BitVec 1 := Scalar.xori v540 v541
  let c0_i32_356 : BitVec 32 := 0#32
  let v539 : BitVec 1 := Scalar.cmpi .ne v538 c0_i32_356
  let v543 : BitVec 1 := Scalar.andi v542 v539
  let v544 : BitVec 32 := Scalar.addi v538 v537
  let v545 : BitVec 32 := Scalar.select v543 v544 v538
  let c1_i32_363 : BitVec 32 := 1#32
  let v547 : BitVec 32 := Scalar.muli v545 c1_i32_363
  let v548 : BitVec 32 := Scalar.addi c0_i32_364 v547
  v548.toNat
def k0_dev28 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_368 : BitVec 32 := 13#32
  let v556 : BitVec 32 := Scalar.addi v2 c13_i32_368
  let c16_i32_369 : BitVec 32 := 16#32
  let c0_i32_370 : BitVec 32 := 0#32
  let v557 : BitVec 1 := Scalar.cmpi .eq c16_i32_369 c0_i32_370
  let c1_i32_371 : BitVec 32 := 1#32
  let v558 : BitVec 32 := Scalar.select v557 c1_i32_371 c16_i32_369
  let v559 : BitVec 32 := Scalar.remsi v556 v558
  let c0_i32_373 : BitVec 32 := 0#32
  let v561 : BitVec 1 := Scalar.cmpi .slt v559 c0_i32_373
  let c0_i32_374 : BitVec 32 := 0#32
  let v562 : BitVec 1 := Scalar.cmpi .slt v558 c0_i32_374
  let v563 : BitVec 1 := Scalar.xori v561 v562
  let c0_i32_372 : BitVec 32 := 0#32
  let v560 : BitVec 1 := Scalar.cmpi .ne v559 c0_i32_372
  let v564 : BitVec 1 := Scalar.andi v563 v560
  let v565 : BitVec 32 := Scalar.addi v559 v558
  let v566 : BitVec 32 := Scalar.select v564 v565 v559
  let c1_i32_379 : BitVec 32 := 1#32
  let v568 : BitVec 32 := Scalar.muli v566 c1_i32_379
  let v569 : BitVec 32 := Scalar.addi c0_i32_380 v568
  v569.toNat
def k0_dev29 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_384 : BitVec 32 := 14#32
  let v577 : BitVec 32 := Scalar.addi v2 c14_i32_384
  let c16_i32_385 : BitVec 32 := 16#32
  let c0_i32_386 : BitVec 32 := 0#32
  let v578 : BitVec 1 := Scalar.cmpi .eq c16_i32_385 c0_i32_386
  let c1_i32_387 : BitVec 32 := 1#32
  let v579 : BitVec 32 := Scalar.select v578 c1_i32_387 c16_i32_385
  let v580 : BitVec 32 := Scalar.remsi v577 v579
  let c0_i32_389 : BitVec 32 := 0#32
  let v582 : BitVec 1 := Scalar.cmpi .slt v580 c0_i32_389
  let c0_i32_390 : BitVec 32 := 0#32
  let v583 : BitVec 1 := Scalar.cmpi .slt v579 c0_i32_390
  let v584 : BitVec 1 := Scalar.xori v582 v583
  let c0_i32_388 : BitVec 32 := 0#32
  let v581 : BitVec 1 := Scalar.cmpi .ne v580 c0_i32_388
  let v585 : BitVec 1 := Scalar.andi v584 v581
  let v586 : BitVec 32 := Scalar.addi v580 v579
  let v587 : BitVec 32 := Scalar.select v585 v586 v580
  let c1_i32_395 : BitVec 32 := 1#32
  let v589 : BitVec 32 := Scalar.muli v587 c1_i32_395
  let v590 : BitVec 32 := Scalar.addi c0_i32_396 v589
  v590.toNat
def k0_dev30 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_400 : BitVec 32 := 15#32
  let v598 : BitVec 32 := Scalar.addi v2 c15_i32_400
  let c16_i32_401 : BitVec 32 := 16#32
  let c0_i32_402 : BitVec 32 := 0#32
  let v599 : BitVec 1 := Scalar.cmpi .eq c16_i32_401 c0_i32_402
  let c1_i32_403 : BitVec 32 := 1#32
  let v600 : BitVec 32 := Scalar.select v599 c1_i32_403 c16_i32_401
  let v601 : BitVec 32 := Scalar.remsi v598 v600
  let c0_i32_405 : BitVec 32 := 0#32
  let v603 : BitVec 1 := Scalar.cmpi .slt v601 c0_i32_405
  let c0_i32_406 : BitVec 32 := 0#32
  let v604 : BitVec 1 := Scalar.cmpi .slt v600 c0_i32_406
  let v605 : BitVec 1 := Scalar.xori v603 v604
  let c0_i32_404 : BitVec 32 := 0#32
  let v602 : BitVec 1 := Scalar.cmpi .ne v601 c0_i32_404
  let v606 : BitVec 1 := Scalar.andi v605 v602
  let v607 : BitVec 32 := Scalar.addi v601 v600
  let v608 : BitVec 32 := Scalar.select v606 v607 v601
  let c1_i32_411 : BitVec 32 := 1#32
  let v610 : BitVec 32 := Scalar.muli v608 c1_i32_411
  let v611 : BitVec 32 := Scalar.addi c0_i32_412 v610
  v611.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_416 : BitVec 32 := 64#32
  let v619 : BitVec 32 := Scalar.muli v2 c64_i32_416
  let v620 : Index := Scalar.indexCast v619
  let c0_417 : Index := 0#32
  ![v620.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_611 : BitVec 32 := 64#32
  let v802 : BitVec 32 := Scalar.muli v2 c64_i32_611
  let c0_i32_616 : BitVec 32 := 0#32
  ![v802.toNat, 0]
def k0_dev31 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_603 : BitVec 32 := 1#32
  let v790 : BitVec 32 := Scalar.addi v2 c1_i32_603
  let c16_i32_604 : BitVec 32 := 16#32
  let c0_i32_605 : BitVec 32 := 0#32
  let v791 : BitVec 1 := Scalar.cmpi .eq c16_i32_604 c0_i32_605
  let c1_i32_606 : BitVec 32 := 1#32
  let v792 : BitVec 32 := Scalar.select v791 c1_i32_606 c16_i32_604
  let v793 : BitVec 32 := Scalar.remsi v790 v792
  let c0_i32_608 : BitVec 32 := 0#32
  let v795 : BitVec 1 := Scalar.cmpi .slt v793 c0_i32_608
  let c0_i32_609 : BitVec 32 := 0#32
  let v796 : BitVec 1 := Scalar.cmpi .slt v792 c0_i32_609
  let v797 : BitVec 1 := Scalar.xori v795 v796
  let c0_i32_607 : BitVec 32 := 0#32
  let v794 : BitVec 1 := Scalar.cmpi .ne v793 c0_i32_607
  let v798 : BitVec 1 := Scalar.andi v797 v794
  let v799 : BitVec 32 := Scalar.addi v793 v792
  let v800 : BitVec 32 := Scalar.select v798 v799 v793
  let c1_i32_614 : BitVec 32 := 1#32
  let v803 : BitVec 32 := Scalar.muli v800 c1_i32_614
  let v804 : BitVec 32 := Scalar.addi c0_i32_615 v803
  v804.toNat
def k0_dev32 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_618 : BitVec 32 := 2#32
  let v811 : BitVec 32 := Scalar.addi v2 c2_i32_618
  let c16_i32_619 : BitVec 32 := 16#32
  let c0_i32_620 : BitVec 32 := 0#32
  let v812 : BitVec 1 := Scalar.cmpi .eq c16_i32_619 c0_i32_620
  let c1_i32_621 : BitVec 32 := 1#32
  let v813 : BitVec 32 := Scalar.select v812 c1_i32_621 c16_i32_619
  let v814 : BitVec 32 := Scalar.remsi v811 v813
  let c0_i32_623 : BitVec 32 := 0#32
  let v816 : BitVec 1 := Scalar.cmpi .slt v814 c0_i32_623
  let c0_i32_624 : BitVec 32 := 0#32
  let v817 : BitVec 1 := Scalar.cmpi .slt v813 c0_i32_624
  let v818 : BitVec 1 := Scalar.xori v816 v817
  let c0_i32_622 : BitVec 32 := 0#32
  let v815 : BitVec 1 := Scalar.cmpi .ne v814 c0_i32_622
  let v819 : BitVec 1 := Scalar.andi v818 v815
  let v820 : BitVec 32 := Scalar.addi v814 v813
  let v821 : BitVec 32 := Scalar.select v819 v820 v814
  let c1_i32_629 : BitVec 32 := 1#32
  let v824 : BitVec 32 := Scalar.muli v821 c1_i32_629
  let v825 : BitVec 32 := Scalar.addi c0_i32_630 v824
  v825.toNat
def k0_dev33 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_633 : BitVec 32 := 3#32
  let v832 : BitVec 32 := Scalar.addi v2 c3_i32_633
  let c16_i32_634 : BitVec 32 := 16#32
  let c0_i32_635 : BitVec 32 := 0#32
  let v833 : BitVec 1 := Scalar.cmpi .eq c16_i32_634 c0_i32_635
  let c1_i32_636 : BitVec 32 := 1#32
  let v834 : BitVec 32 := Scalar.select v833 c1_i32_636 c16_i32_634
  let v835 : BitVec 32 := Scalar.remsi v832 v834
  let c0_i32_638 : BitVec 32 := 0#32
  let v837 : BitVec 1 := Scalar.cmpi .slt v835 c0_i32_638
  let c0_i32_639 : BitVec 32 := 0#32
  let v838 : BitVec 1 := Scalar.cmpi .slt v834 c0_i32_639
  let v839 : BitVec 1 := Scalar.xori v837 v838
  let c0_i32_637 : BitVec 32 := 0#32
  let v836 : BitVec 1 := Scalar.cmpi .ne v835 c0_i32_637
  let v840 : BitVec 1 := Scalar.andi v839 v836
  let v841 : BitVec 32 := Scalar.addi v835 v834
  let v842 : BitVec 32 := Scalar.select v840 v841 v835
  let c1_i32_644 : BitVec 32 := 1#32
  let v845 : BitVec 32 := Scalar.muli v842 c1_i32_644
  let v846 : BitVec 32 := Scalar.addi c0_i32_645 v845
  v846.toNat
def k0_dev34 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_648 : BitVec 32 := 4#32
  let v853 : BitVec 32 := Scalar.addi v2 c4_i32_648
  let c16_i32_649 : BitVec 32 := 16#32
  let c0_i32_650 : BitVec 32 := 0#32
  let v854 : BitVec 1 := Scalar.cmpi .eq c16_i32_649 c0_i32_650
  let c1_i32_651 : BitVec 32 := 1#32
  let v855 : BitVec 32 := Scalar.select v854 c1_i32_651 c16_i32_649
  let v856 : BitVec 32 := Scalar.remsi v853 v855
  let c0_i32_653 : BitVec 32 := 0#32
  let v858 : BitVec 1 := Scalar.cmpi .slt v856 c0_i32_653
  let c0_i32_654 : BitVec 32 := 0#32
  let v859 : BitVec 1 := Scalar.cmpi .slt v855 c0_i32_654
  let v860 : BitVec 1 := Scalar.xori v858 v859
  let c0_i32_652 : BitVec 32 := 0#32
  let v857 : BitVec 1 := Scalar.cmpi .ne v856 c0_i32_652
  let v861 : BitVec 1 := Scalar.andi v860 v857
  let v862 : BitVec 32 := Scalar.addi v856 v855
  let v863 : BitVec 32 := Scalar.select v861 v862 v856
  let c1_i32_659 : BitVec 32 := 1#32
  let v866 : BitVec 32 := Scalar.muli v863 c1_i32_659
  let v867 : BitVec 32 := Scalar.addi c0_i32_660 v866
  v867.toNat
def k0_dev35 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_663 : BitVec 32 := 5#32
  let v874 : BitVec 32 := Scalar.addi v2 c5_i32_663
  let c16_i32_664 : BitVec 32 := 16#32
  let c0_i32_665 : BitVec 32 := 0#32
  let v875 : BitVec 1 := Scalar.cmpi .eq c16_i32_664 c0_i32_665
  let c1_i32_666 : BitVec 32 := 1#32
  let v876 : BitVec 32 := Scalar.select v875 c1_i32_666 c16_i32_664
  let v877 : BitVec 32 := Scalar.remsi v874 v876
  let c0_i32_668 : BitVec 32 := 0#32
  let v879 : BitVec 1 := Scalar.cmpi .slt v877 c0_i32_668
  let c0_i32_669 : BitVec 32 := 0#32
  let v880 : BitVec 1 := Scalar.cmpi .slt v876 c0_i32_669
  let v881 : BitVec 1 := Scalar.xori v879 v880
  let c0_i32_667 : BitVec 32 := 0#32
  let v878 : BitVec 1 := Scalar.cmpi .ne v877 c0_i32_667
  let v882 : BitVec 1 := Scalar.andi v881 v878
  let v883 : BitVec 32 := Scalar.addi v877 v876
  let v884 : BitVec 32 := Scalar.select v882 v883 v877
  let c1_i32_674 : BitVec 32 := 1#32
  let v887 : BitVec 32 := Scalar.muli v884 c1_i32_674
  let v888 : BitVec 32 := Scalar.addi c0_i32_675 v887
  v888.toNat
def k0_dev36 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_678 : BitVec 32 := 6#32
  let v895 : BitVec 32 := Scalar.addi v2 c6_i32_678
  let c16_i32_679 : BitVec 32 := 16#32
  let c0_i32_680 : BitVec 32 := 0#32
  let v896 : BitVec 1 := Scalar.cmpi .eq c16_i32_679 c0_i32_680
  let c1_i32_681 : BitVec 32 := 1#32
  let v897 : BitVec 32 := Scalar.select v896 c1_i32_681 c16_i32_679
  let v898 : BitVec 32 := Scalar.remsi v895 v897
  let c0_i32_683 : BitVec 32 := 0#32
  let v900 : BitVec 1 := Scalar.cmpi .slt v898 c0_i32_683
  let c0_i32_684 : BitVec 32 := 0#32
  let v901 : BitVec 1 := Scalar.cmpi .slt v897 c0_i32_684
  let v902 : BitVec 1 := Scalar.xori v900 v901
  let c0_i32_682 : BitVec 32 := 0#32
  let v899 : BitVec 1 := Scalar.cmpi .ne v898 c0_i32_682
  let v903 : BitVec 1 := Scalar.andi v902 v899
  let v904 : BitVec 32 := Scalar.addi v898 v897
  let v905 : BitVec 32 := Scalar.select v903 v904 v898
  let c1_i32_689 : BitVec 32 := 1#32
  let v908 : BitVec 32 := Scalar.muli v905 c1_i32_689
  let v909 : BitVec 32 := Scalar.addi c0_i32_690 v908
  v909.toNat
def k0_dev37 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_693 : BitVec 32 := 7#32
  let v916 : BitVec 32 := Scalar.addi v2 c7_i32_693
  let c16_i32_694 : BitVec 32 := 16#32
  let c0_i32_695 : BitVec 32 := 0#32
  let v917 : BitVec 1 := Scalar.cmpi .eq c16_i32_694 c0_i32_695
  let c1_i32_696 : BitVec 32 := 1#32
  let v918 : BitVec 32 := Scalar.select v917 c1_i32_696 c16_i32_694
  let v919 : BitVec 32 := Scalar.remsi v916 v918
  let c0_i32_698 : BitVec 32 := 0#32
  let v921 : BitVec 1 := Scalar.cmpi .slt v919 c0_i32_698
  let c0_i32_699 : BitVec 32 := 0#32
  let v922 : BitVec 1 := Scalar.cmpi .slt v918 c0_i32_699
  let v923 : BitVec 1 := Scalar.xori v921 v922
  let c0_i32_697 : BitVec 32 := 0#32
  let v920 : BitVec 1 := Scalar.cmpi .ne v919 c0_i32_697
  let v924 : BitVec 1 := Scalar.andi v923 v920
  let v925 : BitVec 32 := Scalar.addi v919 v918
  let v926 : BitVec 32 := Scalar.select v924 v925 v919
  let c1_i32_704 : BitVec 32 := 1#32
  let v929 : BitVec 32 := Scalar.muli v926 c1_i32_704
  let v930 : BitVec 32 := Scalar.addi c0_i32_705 v929
  v930.toNat
def k0_dev38 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_708 : BitVec 32 := 8#32
  let v937 : BitVec 32 := Scalar.addi v2 c8_i32_708
  let c16_i32_709 : BitVec 32 := 16#32
  let c0_i32_710 : BitVec 32 := 0#32
  let v938 : BitVec 1 := Scalar.cmpi .eq c16_i32_709 c0_i32_710
  let c1_i32_711 : BitVec 32 := 1#32
  let v939 : BitVec 32 := Scalar.select v938 c1_i32_711 c16_i32_709
  let v940 : BitVec 32 := Scalar.remsi v937 v939
  let c0_i32_713 : BitVec 32 := 0#32
  let v942 : BitVec 1 := Scalar.cmpi .slt v940 c0_i32_713
  let c0_i32_714 : BitVec 32 := 0#32
  let v943 : BitVec 1 := Scalar.cmpi .slt v939 c0_i32_714
  let v944 : BitVec 1 := Scalar.xori v942 v943
  let c0_i32_712 : BitVec 32 := 0#32
  let v941 : BitVec 1 := Scalar.cmpi .ne v940 c0_i32_712
  let v945 : BitVec 1 := Scalar.andi v944 v941
  let v946 : BitVec 32 := Scalar.addi v940 v939
  let v947 : BitVec 32 := Scalar.select v945 v946 v940
  let c1_i32_719 : BitVec 32 := 1#32
  let v950 : BitVec 32 := Scalar.muli v947 c1_i32_719
  let v951 : BitVec 32 := Scalar.addi c0_i32_720 v950
  v951.toNat
def k0_dev39 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_723 : BitVec 32 := 9#32
  let v958 : BitVec 32 := Scalar.addi v2 c9_i32_723
  let c16_i32_724 : BitVec 32 := 16#32
  let c0_i32_725 : BitVec 32 := 0#32
  let v959 : BitVec 1 := Scalar.cmpi .eq c16_i32_724 c0_i32_725
  let c1_i32_726 : BitVec 32 := 1#32
  let v960 : BitVec 32 := Scalar.select v959 c1_i32_726 c16_i32_724
  let v961 : BitVec 32 := Scalar.remsi v958 v960
  let c0_i32_728 : BitVec 32 := 0#32
  let v963 : BitVec 1 := Scalar.cmpi .slt v961 c0_i32_728
  let c0_i32_729 : BitVec 32 := 0#32
  let v964 : BitVec 1 := Scalar.cmpi .slt v960 c0_i32_729
  let v965 : BitVec 1 := Scalar.xori v963 v964
  let c0_i32_727 : BitVec 32 := 0#32
  let v962 : BitVec 1 := Scalar.cmpi .ne v961 c0_i32_727
  let v966 : BitVec 1 := Scalar.andi v965 v962
  let v967 : BitVec 32 := Scalar.addi v961 v960
  let v968 : BitVec 32 := Scalar.select v966 v967 v961
  let c1_i32_734 : BitVec 32 := 1#32
  let v971 : BitVec 32 := Scalar.muli v968 c1_i32_734
  let v972 : BitVec 32 := Scalar.addi c0_i32_735 v971
  v972.toNat
def k0_dev40 (d0 : Dev nD) : Nat :=
  let c0_i32_750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_738 : BitVec 32 := 10#32
  let v979 : BitVec 32 := Scalar.addi v2 c10_i32_738
  let c16_i32_739 : BitVec 32 := 16#32
  let c0_i32_740 : BitVec 32 := 0#32
  let v980 : BitVec 1 := Scalar.cmpi .eq c16_i32_739 c0_i32_740
  let c1_i32_741 : BitVec 32 := 1#32
  let v981 : BitVec 32 := Scalar.select v980 c1_i32_741 c16_i32_739
  let v982 : BitVec 32 := Scalar.remsi v979 v981
  let c0_i32_743 : BitVec 32 := 0#32
  let v984 : BitVec 1 := Scalar.cmpi .slt v982 c0_i32_743
  let c0_i32_744 : BitVec 32 := 0#32
  let v985 : BitVec 1 := Scalar.cmpi .slt v981 c0_i32_744
  let v986 : BitVec 1 := Scalar.xori v984 v985
  let c0_i32_742 : BitVec 32 := 0#32
  let v983 : BitVec 1 := Scalar.cmpi .ne v982 c0_i32_742
  let v987 : BitVec 1 := Scalar.andi v986 v983
  let v988 : BitVec 32 := Scalar.addi v982 v981
  let v989 : BitVec 32 := Scalar.select v987 v988 v982
  let c1_i32_749 : BitVec 32 := 1#32
  let v992 : BitVec 32 := Scalar.muli v989 c1_i32_749
  let v993 : BitVec 32 := Scalar.addi c0_i32_750 v992
  v993.toNat
def k0_dev41 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_753 : BitVec 32 := 11#32
  let v1000 : BitVec 32 := Scalar.addi v2 c11_i32_753
  let c16_i32_754 : BitVec 32 := 16#32
  let c0_i32_755 : BitVec 32 := 0#32
  let v1001 : BitVec 1 := Scalar.cmpi .eq c16_i32_754 c0_i32_755
  let c1_i32_756 : BitVec 32 := 1#32
  let v1002 : BitVec 32 := Scalar.select v1001 c1_i32_756 c16_i32_754
  let v1003 : BitVec 32 := Scalar.remsi v1000 v1002
  let c0_i32_758 : BitVec 32 := 0#32
  let v1005 : BitVec 1 := Scalar.cmpi .slt v1003 c0_i32_758
  let c0_i32_759 : BitVec 32 := 0#32
  let v1006 : BitVec 1 := Scalar.cmpi .slt v1002 c0_i32_759
  let v1007 : BitVec 1 := Scalar.xori v1005 v1006
  let c0_i32_757 : BitVec 32 := 0#32
  let v1004 : BitVec 1 := Scalar.cmpi .ne v1003 c0_i32_757
  let v1008 : BitVec 1 := Scalar.andi v1007 v1004
  let v1009 : BitVec 32 := Scalar.addi v1003 v1002
  let v1010 : BitVec 32 := Scalar.select v1008 v1009 v1003
  let c1_i32_764 : BitVec 32 := 1#32
  let v1013 : BitVec 32 := Scalar.muli v1010 c1_i32_764
  let v1014 : BitVec 32 := Scalar.addi c0_i32_765 v1013
  v1014.toNat
def k0_dev42 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_768 : BitVec 32 := 12#32
  let v1021 : BitVec 32 := Scalar.addi v2 c12_i32_768
  let c16_i32_769 : BitVec 32 := 16#32
  let c0_i32_770 : BitVec 32 := 0#32
  let v1022 : BitVec 1 := Scalar.cmpi .eq c16_i32_769 c0_i32_770
  let c1_i32_771 : BitVec 32 := 1#32
  let v1023 : BitVec 32 := Scalar.select v1022 c1_i32_771 c16_i32_769
  let v1024 : BitVec 32 := Scalar.remsi v1021 v1023
  let c0_i32_773 : BitVec 32 := 0#32
  let v1026 : BitVec 1 := Scalar.cmpi .slt v1024 c0_i32_773
  let c0_i32_774 : BitVec 32 := 0#32
  let v1027 : BitVec 1 := Scalar.cmpi .slt v1023 c0_i32_774
  let v1028 : BitVec 1 := Scalar.xori v1026 v1027
  let c0_i32_772 : BitVec 32 := 0#32
  let v1025 : BitVec 1 := Scalar.cmpi .ne v1024 c0_i32_772
  let v1029 : BitVec 1 := Scalar.andi v1028 v1025
  let v1030 : BitVec 32 := Scalar.addi v1024 v1023
  let v1031 : BitVec 32 := Scalar.select v1029 v1030 v1024
  let c1_i32_779 : BitVec 32 := 1#32
  let v1034 : BitVec 32 := Scalar.muli v1031 c1_i32_779
  let v1035 : BitVec 32 := Scalar.addi c0_i32_780 v1034
  v1035.toNat
def k0_dev43 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_783 : BitVec 32 := 13#32
  let v1042 : BitVec 32 := Scalar.addi v2 c13_i32_783
  let c16_i32_784 : BitVec 32 := 16#32
  let c0_i32_785 : BitVec 32 := 0#32
  let v1043 : BitVec 1 := Scalar.cmpi .eq c16_i32_784 c0_i32_785
  let c1_i32_786 : BitVec 32 := 1#32
  let v1044 : BitVec 32 := Scalar.select v1043 c1_i32_786 c16_i32_784
  let v1045 : BitVec 32 := Scalar.remsi v1042 v1044
  let c0_i32_788 : BitVec 32 := 0#32
  let v1047 : BitVec 1 := Scalar.cmpi .slt v1045 c0_i32_788
  let c0_i32_789 : BitVec 32 := 0#32
  let v1048 : BitVec 1 := Scalar.cmpi .slt v1044 c0_i32_789
  let v1049 : BitVec 1 := Scalar.xori v1047 v1048
  let c0_i32_787 : BitVec 32 := 0#32
  let v1046 : BitVec 1 := Scalar.cmpi .ne v1045 c0_i32_787
  let v1050 : BitVec 1 := Scalar.andi v1049 v1046
  let v1051 : BitVec 32 := Scalar.addi v1045 v1044
  let v1052 : BitVec 32 := Scalar.select v1050 v1051 v1045
  let c1_i32_794 : BitVec 32 := 1#32
  let v1055 : BitVec 32 := Scalar.muli v1052 c1_i32_794
  let v1056 : BitVec 32 := Scalar.addi c0_i32_795 v1055
  v1056.toNat
def k0_dev44 (d0 : Dev nD) : Nat :=
  let c0_i32_810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_798 : BitVec 32 := 14#32
  let v1063 : BitVec 32 := Scalar.addi v2 c14_i32_798
  let c16_i32_799 : BitVec 32 := 16#32
  let c0_i32_800 : BitVec 32 := 0#32
  let v1064 : BitVec 1 := Scalar.cmpi .eq c16_i32_799 c0_i32_800
  let c1_i32_801 : BitVec 32 := 1#32
  let v1065 : BitVec 32 := Scalar.select v1064 c1_i32_801 c16_i32_799
  let v1066 : BitVec 32 := Scalar.remsi v1063 v1065
  let c0_i32_803 : BitVec 32 := 0#32
  let v1068 : BitVec 1 := Scalar.cmpi .slt v1066 c0_i32_803
  let c0_i32_804 : BitVec 32 := 0#32
  let v1069 : BitVec 1 := Scalar.cmpi .slt v1065 c0_i32_804
  let v1070 : BitVec 1 := Scalar.xori v1068 v1069
  let c0_i32_802 : BitVec 32 := 0#32
  let v1067 : BitVec 1 := Scalar.cmpi .ne v1066 c0_i32_802
  let v1071 : BitVec 1 := Scalar.andi v1070 v1067
  let v1072 : BitVec 32 := Scalar.addi v1066 v1065
  let v1073 : BitVec 32 := Scalar.select v1071 v1072 v1066
  let c1_i32_809 : BitVec 32 := 1#32
  let v1076 : BitVec 32 := Scalar.muli v1073 c1_i32_809
  let v1077 : BitVec 32 := Scalar.addi c0_i32_810 v1076
  v1077.toNat
def k0_dev45 (d0 : Dev nD) : Nat :=
  let c0_i32_825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_813 : BitVec 32 := 15#32
  let v1084 : BitVec 32 := Scalar.addi v2 c15_i32_813
  let c16_i32_814 : BitVec 32 := 16#32
  let c0_i32_815 : BitVec 32 := 0#32
  let v1085 : BitVec 1 := Scalar.cmpi .eq c16_i32_814 c0_i32_815
  let c1_i32_816 : BitVec 32 := 1#32
  let v1086 : BitVec 32 := Scalar.select v1085 c1_i32_816 c16_i32_814
  let v1087 : BitVec 32 := Scalar.remsi v1084 v1086
  let c0_i32_818 : BitVec 32 := 0#32
  let v1089 : BitVec 1 := Scalar.cmpi .slt v1087 c0_i32_818
  let c0_i32_819 : BitVec 32 := 0#32
  let v1090 : BitVec 1 := Scalar.cmpi .slt v1086 c0_i32_819
  let v1091 : BitVec 1 := Scalar.xori v1089 v1090
  let c0_i32_817 : BitVec 32 := 0#32
  let v1088 : BitVec 1 := Scalar.cmpi .ne v1087 c0_i32_817
  let v1092 : BitVec 1 := Scalar.andi v1091 v1088
  let v1093 : BitVec 32 := Scalar.addi v1087 v1086
  let v1094 : BitVec 32 := Scalar.select v1092 v1093 v1087
  let c1_i32_824 : BitVec 32 := 1#32
  let v1097 : BitVec 32 := Scalar.muli v1094 c1_i32_824
  let v1098 : BitVec 32 := Scalar.addi c0_i32_825 v1097
  v1098.toNat
def k0_off4 (d0 : Dev nD) (c1_i32_828 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1105 : BitVec 32 := Scalar.subi v2 c1_i32_828
  let c16_i32_829 : BitVec 32 := 16#32
  let c0_i32_830 : BitVec 32 := 0#32
  let v1106 : BitVec 1 := Scalar.cmpi .eq c16_i32_829 c0_i32_830
  let c1_i32_831 : BitVec 32 := 1#32
  let v1107 : BitVec 32 := Scalar.select v1106 c1_i32_831 c16_i32_829
  let v1108 : BitVec 32 := Scalar.remsi v1105 v1107
  let c0_i32_833 : BitVec 32 := 0#32
  let v1110 : BitVec 1 := Scalar.cmpi .slt v1108 c0_i32_833
  let c0_i32_834 : BitVec 32 := 0#32
  let v1111 : BitVec 1 := Scalar.cmpi .slt v1107 c0_i32_834
  let v1112 : BitVec 1 := Scalar.xori v1110 v1111
  let c0_i32_832 : BitVec 32 := 0#32
  let v1109 : BitVec 1 := Scalar.cmpi .ne v1108 c0_i32_832
  let v1113 : BitVec 1 := Scalar.andi v1112 v1109
  let v1114 : BitVec 32 := Scalar.addi v1108 v1107
  let v1115 : BitVec 32 := Scalar.select v1113 v1114 v1108
  let c64_i32_836 : BitVec 32 := 64#32
  let v1117 : BitVec 32 := Scalar.muli v1115 c64_i32_836
  let c0_i32_841 : BitVec 32 := 0#32
  ![v1117.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x64 : Shape := ⟨2, ![256, 64]⟩
abbrev S1024x2 : Shape := ⟨2, ![1024, 2]⟩
abbrev S64x256x512 : Shape := ⟨3, ![64, 256, 512]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S1024x256x512 : Shape := ⟨3, ![1024, 256, 512]⟩
abbrev S1024x512 : Shape := ⟨2, ![1024, 512]⟩

abbrev nBuf : Space → Nat
  | .hbm => 87
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S1024x2, .i32⟩
  | .hbm, ⟨3, _⟩ => ⟨S64x256x512, .f32⟩
  | .hbm, ⟨4, _⟩ => ⟨S1024x64, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x64, .f32⟩
  | .hbm, ⟨15, _⟩ => ⟨S1024x64, .f32⟩
  | .hbm, ⟨16, _⟩ => ⟨S1024x1, .i32⟩
  | .hbm, ⟨17, _⟩ => ⟨S1024, .i32⟩
  | .hbm, ⟨18, _⟩ => ⟨S1024x1, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x1, .i32⟩
  | .hbm, ⟨37, _⟩ => ⟨S1024x2, .i32⟩
  | .hbm, ⟨38, _⟩ => ⟨S1024, .f32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S1024x1, .i32⟩
  | .hbm, ⟨55, _⟩ => ⟨S1024x2, .i32⟩
  | .hbm, ⟨56, _⟩ => ⟨S1024, .f32⟩
  | .hbm, ⟨57, _⟩ => ⟨S1024, .f32⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S_, .i32⟩
  | .hbm, ⟨62, _⟩ => ⟨S1024, .i32⟩
  | .hbm, ⟨63, _⟩ => ⟨S1024, .i32⟩
  | .hbm, ⟨64, _⟩ => ⟨S1024, .i32⟩
  | .hbm, ⟨65, _⟩ => ⟨S1024x1, .i32⟩
  | .hbm, ⟨66, _⟩ => ⟨S1024x256x512, .f32⟩
  | .hbm, ⟨67, _⟩ => ⟨S1024x512, .f32⟩
  | .hbm, ⟨68, _⟩ => ⟨S_, .i32⟩
  | .hbm, ⟨69, _⟩ => ⟨S1024, .i32⟩
  | .hbm, ⟨70, _⟩ => ⟨S1024, .i1⟩
  | .hbm, ⟨71, _⟩ => ⟨S_, .i32⟩
  | .hbm, ⟨72, _⟩ => ⟨S1024, .i32⟩
  | .hbm, ⟨73, _⟩ => ⟨S1024, .i32⟩
  | .hbm, ⟨74, _⟩ => ⟨S1024, .i32⟩
  | .hbm, ⟨75, _⟩ => ⟨S1024x1, .i32⟩
  | .hbm, ⟨76, _⟩ => ⟨S1024x256x512, .f32⟩
  | .hbm, ⟨77, _⟩ => ⟨S1024x512, .f32⟩
  | .hbm, ⟨78, _⟩ => ⟨S1024, .f32⟩
  | .hbm, ⟨79, _⟩ => ⟨S1024x1, .f32⟩
  | .hbm, ⟨80, _⟩ => ⟨S1024x512, .f32⟩
  | .hbm, ⟨81, _⟩ => ⟨S1024x512, .f32⟩
  | .hbm, ⟨82, _⟩ => ⟨S1024, .f32⟩
  | .hbm, ⟨83, _⟩ => ⟨S1024x1, .f32⟩
  | .hbm, ⟨84, _⟩ => ⟨S1024x512, .f32⟩
  | .hbm, ⟨85, _⟩ => ⟨S1024x512, .f32⟩
  | .hbm, ⟨86, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Moe.Cells.lean ====
/-
# The exchange: devices, chunks, cells and the schedule

Sixteen devices exchange blocks of 64 rows. Device `c` sends rows `c+o` of its accumulator to device
`c+o`, for every offset `o` from 1 to 15, adds the fifteen blocks it receives to its own, and sends
the sum to every other device. Every block travels under its own pair of DMA semaphores, indexed by
the offset; one barrier semaphore tells a device that the others are ready.

This file names the blocks and the semaphores, and states which duty each semaphore's one round has:
who pays it, how much, and what the payment hands over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties are named by `Fin 15`: offset `i + 1` on a barrier cell, 0 on a DMA cell. -/
abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

/-! ## Devices at an offset -/

set_option backward.proofsInPublic true in
/-- The device `o` places after `c`. -/
def fwd (c : Dev nD) (o : Fin 16) : Dev nD := ⟨(c.val + o.val) % 16, Nat.mod_lt _ (by decide)⟩
set_option backward.proofsInPublic true in
/-- The device `o` places before `c`. -/
def bwd (c : Dev nD) (o : Fin 16) : Dev nD := ⟨(c.val + 16 - o.val) % 16, Nat.mod_lt _ (by decide)⟩

theorem fwd_bwd (c : Dev nD) (o : Fin 16) : fwd (bwd c o) o = c := by revert c o; decide
theorem bwd_fwd (c : Dev nD) (o : Fin 16) : bwd (fwd c o) o = c := by revert c o; decide
theorem fwd_rev (c : Dev nD) (i : Fin 15) : fwd (fwd c i.succ) i.rev.succ = c := by revert c i; decide
theorem fwd_eq_iff (c d : Dev nD) (o : Fin 16) : fwd d o = c ↔ d = bwd c o :=
  ⟨fun h => by rw [← h, bwd_fwd], fun h => by rw [h, fwd_bwd]⟩

/-- Moving every device by the offset `o`. -/
def turn (o : Fin 16) : Dev nD ≃ Dev nD := ⟨fun c => fwd c o, fun c => bwd c o, fun c => bwd_fwd c o, fun c => fwd_bwd c o⟩

/-! ## Buffers, blocks of rows, slots -/

abbrev xM : Memref sig .tc .vmem S1024x256 .f32 := Memref.whole cc0_stg0_0
abbrev wM : Memref sig .tc .vmem S256x64 .f32 := Memref.whole cc0_stg1_0
abbrev iM : Memref sig .tc .vmem S1024x2 .i32 := Memref.whole cc0_stg2_0
abbrev eM : Memref sig .tc .vmem S4x256x512 .f32 := Memref.whole cc0_stg3_0
abbrev oM : Memref sig .tc .vmem S1024x512 .f32 := Memref.whole cc0_stg4_0
abbrev aM : Memref sig .tc .vmem S1024x512 .f32 := Memref.whole cc0_scratch0
abbrev pM : Memref sig .tc .vmem S16x64x512 .f32 := Memref.whole cc0_scratch1

theorem rows_inb (j : Fin 16) : ∀ a, (![64 * j.val, 0] : Fin 2 → Nat) a + S64x512.size a ≤ S1024x512.size a := by
  revert j; decide
/-- Rows `64 j` to `64 j + 63`. -/
abbrev rowsR (j : Fin 16) : Rect S1024x512 := Rect.unit (s := S1024x512) ![64 * j.val, 0] S64x512.size (rows_inb j)
theorem slot_inb (o : Fin 16) : ∀ a, (![o.val, 0, 0] : Fin 3 → Nat) a + S1x64x512.size a ≤ S16x64x512.size a := by
  revert o; decide
/-- Slot `o` of the landing buffer. -/
abbrev slotR (o : Fin 16) : Rect S16x64x512 := Rect.unit (s := S16x64x512) ![o.val, 0, 0] S1x64x512.size (slot_inb o)

/-- Block `j` of the accumulator, block `j` of the result, slot `o` of the landing buffer. -/
abbrev aRow (j : Fin 16) : Memref sig .tc .vmem S64x512 .f32 := aM.slice (rowsR j) (fun _ => rfl)
abbrev oRow (j : Fin 16) : Memref sig .tc .vmem S64x512 .f32 := oM.slice (rowsR j) (fun _ => rfl)
abbrev pSlab (o : Fin 16) : Memref sig .tc .vmem S1x64x512 .f32 := pM.slice (slotR o) (fun _ => rfl)
abbrev pSlot (o : Fin 16) : Memref sig .tc .vmem S64x512 .f32 := (pSlab o).squeeze S64x512 squeezes_S1x64x512_S64x512

/-! ## Semaphores and cells -/

/-- The barrier semaphore. -/
abbrev barS : Sem sig := (SemArray.scalar (sig.barrier 0 rfl) : Sems sig S_).sem
theorem one_inb (o : Fin 16) : ∀ a, (![o.val] : Fin 1 → Nat) a + S1.size a ≤ S16.size a := by revert o; decide
/-- Semaphore `o` of an array. -/
abbrev semAt (A : DmaSems sig S16) (o : Fin 16) : DmaSem sig :=
  ((A.slice (Rect.unit (s := S16) ![o.val] S1.size (one_inb o))).squeeze S_ squeezes_S1_S_).sem
/-- The four arrays: sent and received in the first exchange, sent and received in the second. -/
abbrev semArr : Fin 4 → DmaSems sig S16 := fun | 0 => cc0_scratch2 | 1 => cc0_scratch3 | 2 => cc0_scratch4 | 3 => cc0_scratch5
abbrev KI : Type := Fin 4 × Fin 16
abbrev dsem (k : KI) : DmaSem sig := semAt (semArr k.1) k.2

/-- Which array a DMA semaphore lies in and at which offset. -/
def arrOf (q : DmaSem sig) : Fin 4 := ⟨(q.val - 5) / 16 % 4, Nat.mod_lt _ (by decide)⟩
def offOf (q : DmaSem sig) : Fin 16 := ⟨(q.val - 5) % 16, Nat.mod_lt _ (by decide)⟩
theorem dsem_val (k : KI) : (dsem k).val = 5 + 16 * k.1.val + k.2.val := by revert k; decide +kernel
theorem arrOf_dsem (k : KI) : arrOf (dsem k) = k.1 := by
  apply Fin.ext; show ((dsem k).val - 5) / 16 % 4 = _; rw [dsem_val]; omega
theorem offOf_dsem (k : KI) : offOf (dsem k) = k.2 := by
  apply Fin.ext; show ((dsem k).val - 5) % 16 = _; rw [dsem_val]; omega
theorem dsem_injective : Function.Injective dsem := fun k k' h =>
  Prod.ext (by rw [← arrOf_dsem k, h, arrOf_dsem]) (by rw [← offOf_dsem k, h, offOf_dsem])

abbrev barCell (c : Dev nD) : GSem nD τ sig := ((c : Thread nD τ), .reg barS)
abbrev dCell (c : Dev nD) (k : KI) : GSem nD τ sig := ((c : Thread nD τ), .dma (dsem k))

/-- The kernel's own scoped semaphores, and with the barrier all it uses. -/
abbrev osem : KI → SemLoc sig := fun k => .dma (dsem k)
abbrev csem : Option KI → SemLoc sig := fun | none => .reg barS | some k => .dma (dsem k)
abbrev kcell (ck : Dev nD × Option KI) : GSem nD τ sig := ((ck.1 : Thread nD τ), csem ck.2)

/-- What one block's copy raises a DMA semaphore by. -/
def N : ℕ := (pSlot 0).view.dmaCredit
theorem N_pos : 0 < N := View.dmaCredit_pos _ (by decide)
theorem credit_slot (o : Fin 16) : (pSlot o).view.dmaCredit = N := rfl
theorem credit_arow (o : Fin 16) : (aRow o).view.dmaCredit = N := rfl
theorem credit_orow (o : Fin 16) : (oRow o).view.dmaCredit = N := rfl

/-! ## Contents -/

/-- What the staging buffers hold when the body starts: the argument's block. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def istg (c : Dev nD) : (cc0_stg2_0 : Ref sig .tc).ty.Contents (Elt F) :=
  (win0_2.blk (0 : Fin 1)).view.read (Elt F) (m ((c : Thread nD τ).loc main_arg2))
def estg (c : Dev nD) : (cc0_stg3_0 : Ref sig .tc).ty.Contents (Elt F) :=
  (win0_3.blk (0 : Fin 1)).view.read (Elt F) (m ((c : Thread nD τ).loc main_arg3))

/-- The words the four loads of the expert weights and the two of the routing columns read. -/
abbrev ewR (e : Fin 4) (h : ∀ a, (![e.val, 0, 0] : Fin 3 → Nat) a + S1x256x512.size a ≤ S4x256x512.size a) : Rect S4x256x512 :=
  Rect.unit (s := S4x256x512) ![e.val, 0, 0] S1x256x512.size h
def xv (c : Dev nD) : Vec F S1024x256 .f32 :=
  xM.view.readAt (Elt F) (Rect.unit (s := S1024x256) ![0, 0] S1024x256.size inb_S1024x256_S1024x256_0_0).toLoadRect (xstg m c)
def wv (c : Dev nD) : Vec F S256x64 .f32 :=
  wM.view.readAt (Elt F) (Rect.unit (s := S256x64) ![0, 0] S256x64.size inb_S256x64_S256x64_0_0).toLoadRect (wstg m c)
def iv0 (c : Dev nD) : Vec F S1024x1 .i32 :=
  iM.view.readAt (Elt F) (Rect.unit (s := S1024x2) ![0, 0] S1024x1.size inb_S1024x2_S1024x1_0_0).toLoadRect (istg m c)
def iv1 (c : Dev nD) : Vec F S1024x1 .i32 :=
  iM.view.readAt (Elt F) (Rect.unit (s := S1024x2) ![0, 1] S1024x1.size inb_S1024x2_S1024x1_0_1).toLoadRect (istg m c)
def ev0 (c : Dev nD) : Vec F S1x256x512 .f32 :=
  eM.view.readAt (Elt F) (Rect.unit (s := S4x256x512) ![0, 0, 0] S1x256x512.size inb_S4x256x512_S1x256x512_0_0_0).toLoadRect (estg m c)
def ev1 (c : Dev nD) : Vec F S1x256x512 .f32 :=
  eM.view.readAt (Elt F) (Rect.unit (s := S4x256x512) ![1, 0, 0] S1x256x512.size inb_S4x256x512_S1x256x512_1_0_0).toLoadRect (estg m c)
def ev2 (c : Dev nD) : Vec F S1x256x512 .f32 :=
  eM.view.readAt (Elt F) (Rect.unit (s := S4x256x512) ![2, 0, 0] S1x256x512.size inb_S4x256x512_S1x256x512_2_0_0).toLoadRect (estg m c)
def ev3 (c : Dev nD) : Vec F S1x256x512 .f32 :=
  eM.view.readAt (Elt F) (Rect.unit (s := S4x256x512) ![3, 0, 0] S1x256x512.size inb_S4x256x512_S1x256x512_3_0_0).toLoadRect (estg m c)

/-- The device's number as the word the kernel computes with. -/
def devW (c : Dev nD) : BitVec 32 := Scalar.remsi (Scalar.divsi (Dev.word c) 1#32) 16#32
/-- What device `c` stores in its accumulator: its four experts' part of every row. -/
def accAt (c : Dev nD) : (cc0_scratch0 : Ref sig .tc).ty.Contents (Elt F) :=
  k0_pay16 (devW c) (k0_pay1 (xv m c)) (k0_pay3 (iv0 m c)) (k0_pay4 (iv1 m c))
    (k0_pay10 (xv m c) (wv m c) (iv0 m c) (iv1 m c)) (k0_pay11 (xv m c) (wv m c) (iv0 m c) (iv1 m c))
    (k0_pay13 (devW c) (k0_pay1 (xv m c)) (k0_pay3 (iv0 m c)) (k0_pay4 (iv1 m c))
      (k0_pay10 (xv m c) (wv m c) (iv0 m c) (iv1 m c)) (k0_pay11 (xv m c) (wv m c) (iv0 m c) (iv1 m c)) (k0_pay12 (F := F))
      (Scalar.addi (Scalar.muli (devW c) 4#32) 0#32) (ev0 m c) (ev1 m c))
    (k0_pay14 (devW c) (k0_pay3 (iv0 m c)) (k0_pay10 (xv m c) (wv m c) (iv0 m c) (iv1 m c)))
    (k0_pay15 (devW c) (k0_pay4 (iv1 m c)) (k0_pay11 (xv m c) (wv m c) (iv0 m c) (iv1 m c)))
    (ev2 m c) (ev3 m c)

/-- Block `j` of device `d`'s accumulator. -/
def accRow (d : Dev nD) (j : Fin 16) : Vec F S64x512 .f32 := fun x => accAt m d ((rowsR j).emb x)
/-- A block as the one-slab array a load of a landing slot reads. -/
def slab (X : Vec F S64x512 .f32) : Vec F S1x64x512 .f32 :=
  fun x => X ((Shape.reshapeEquiv (s := S1x64x512) (s' := S64x512) squeezes_S1x64x512_S64x512.numel_eq).symm x)
/-- What slot `o` holds on device `c` once filled, as a load reads it. -/
def got (c : Dev nD) (o : Fin 16) : Vec F S1x64x512 .f32 := slab (accRow m (bwd c o) c)
/-- The block device `c` sums up: its own rows of its accumulator and the fifteen it received, in order. -/
def red (c : Dev nD) : Vec F S64x512 .f32 :=
  k0_pay23 (k0_pay22 (k0_pay21 (k0_pay20 (k0_pay19 (k0_pay18 (k0_pay17 (accRow m c c) (got m c 1))
    (got m c 2) (got m c 3) (got m c 4)) (got m c 5) (got m c 6)) (got m c 7) (got m c 8))
    (got m c 9) (got m c 10) (got m c 11)) (got m c 12) (got m c 13)) (got m c 14) (got m c 15)

/-! ## The schedule -/

/-- The share of a device's summed block that the copy at offset `i + 1` reads. -/
abbrev shr (i : ℕ) : PosShare TreeShare := Transfers.shareTokN fullShare i

/-- A barrier cell of device `c`, duty `i`, paid by the device `i + 1` places after: that device's slot
    for `c`'s block and the block of its result that `c` sums up. -/
def barPay (c : Dev nD) (i : Fin 15) : sProp 𝕄 :=
  iprop((∃ X, owns (fwd c i.succ : Thread nD τ) (pSlot i.succ) fullShare X) ∗ (∃ X, owns (fwd c i.succ : Thread nD τ) (oRow c) fullShare X))
/-- What a DMA cell's payment hands its owner: the sent block back, the received block. -/
def dmaPay (c : Dev nD) (a : Fin 4) (o : Fin 16) : sProp 𝕄 :=
  match a with
  | 0 => owns (c : Thread nD τ) (aRow (fwd c o)) fullShare (accRow m c (fwd c o))
  | 1 => owns (c : Thread nD τ) (pSlot o) fullShare (accRow m (bwd c o) c)
  | 2 => owns (c : Thread nD τ) (oRow c) (shr (o.val - 1)) (red m c)
  | 3 => owns (c : Thread nD τ) (oRow (bwd c o)) fullShare (red m (bwd c o))

omit [FloatOps F] in
instance barPay_storable (c : Dev nD) (i : Fin 15) : BI.Storable (upEmb : UEmb _ 𝕄) (barPay (F := F) c i) := by unfold barPay; infer_instance
instance dmaPay_storable (c : Dev nD) (a : Fin 4) (o : Fin 16) : BI.Storable (upEmb : UEmb _ 𝕄) (dmaPay (F := F) m c a o) := by
  unfold dmaPay; split <;> infer_instance

/-- One round: a barrier cell has fifteen duties of one unit, a DMA cell at an offset other than 0 one duty of a block's credit. -/
def rd : Rounds.Schedule (GSem nD τ sig) (Fin 15) 𝕄 where
  duties g r := match g.2 with
    | .reg s => if r = 0 ∧ g.1.2 = .tc ∧ s = barS then Finset.univ else ∅
    | .dma q => if r = 0 ∧ g.1.2 = .tc ∧ 5 ≤ q.val ∧ offOf q ≠ 0 then {0} else ∅
  unitless _ := False
  amount g _ _ := match g.2 with
    | .reg _ => 1
    | .dma _ => N
  payload g _ d := match g.2 with
    | .reg _ => barPay g.1.1 d
    | .dma q => dmaPay m g.1.1 (arrOf q) (offOf q)
  amount_pos g _ _ _ := by
    rcases g with ⟨t, s | q⟩
    · exact Nat.one_pos
    · exact N_pos

instance rd_payload_storable (g : GSem nD τ sig) (r : ℕ) (d : Fin 15) :
    BI.Storable (upEmb : UEmb _ 𝕄) ((rd (F := F) m).payload g r d) := by
  rcases g with ⟨t, s | q⟩
  · show BI.Storable upEmb (barPay t.1 d); infer_instance
  · show BI.Storable upEmb (dmaPay m t.1 (arrOf q) (offOf q)); infer_instance

section Sched
variable (c : Dev nD)

theorem duties_bar : (rd (F := F) m).duties (barCell c) 0 = Finset.univ := by
  show (if 0 = 0 ∧ (barCell c).1.2 = .tc ∧ barS = barS then Finset.univ else ∅) = _; exact if_pos ⟨rfl, rfl, rfl⟩
theorem duties_d (a : Fin 4) (i : Fin 15) : (rd (F := F) m).duties (dCell c (a, i.succ)) 0 = {0} :=
  if_pos ⟨rfl, rfl, by rw [dsem_val]; omega, by rw [offOf_dsem]; exact Fin.succ_ne_zero i⟩
theorem duties_d0 (a : Fin 4) (r : ℕ) : (rd (F := F) m).duties (dCell c (a, 0)) r = ∅ :=
  if_neg fun h => h.2.2.2 (offOf_dsem _)
theorem duties_later (g : GSem nD τ sig) : ∀ r, 1 ≤ r → (rd (F := F) m).duties g r = ∅ := fun r hr => by
  rcases g with ⟨t, s | q⟩
  · exact if_neg fun h => by omega
  · exact if_neg fun h => by omega

theorem amount_bar (d : Fin 15) : (rd (F := F) m).amount (barCell c) 0 d = 1 := rfl
theorem amount_d (k : KI) (d : Fin 15) : (rd (F := F) m).amount (dCell c k) 0 d = N := rfl

theorem expect_bar : (rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_d (a : Fin 4) (i : Fin 15) : (rd (F := F) m).expect (dCell c (a, i.succ)) 0 = N := by
  unfold Schedule.expect Schedule.amountOf; rw [duties_d, Finset.sum_singleton, amount_d]

theorem payload_bar (d : Fin 15) : (rd (F := F) m).payload (barCell c) 0 d = barPay c d := rfl
theorem payload_d (k : KI) (d : Fin 15) : (rd (F := F) m).payload (dCell c k) 0 d = dmaPay m c k.1 k.2 := by
  show dmaPay m c (arrOf (dsem k)) (offOf (dsem k)) = _; rw [arrOf_dsem, offOf_dsem]

/-- All a barrier wait brings; all a DMA wait brings. -/
theorem rest_bar : bigSep ((rd (F := F) m).duties (barCell c) 0 \ ∅) (fun d => (rd (F := F) m).payload (barCell c) 0 d)
    = bigSep Finset.univ (fun i => barPay c i) := by
  rw [Finset.sdiff_empty, duties_bar]; rfl
theorem rest_d (a : Fin 4) (i : Fin 15) :
    bigSep ((rd (F := F) m).duties (dCell c (a, i.succ)) 0 \ ∅) (fun d => (rd (F := F) m).payload (dCell c (a, i.succ)) 0 d)
      = dmaPay m c a i.succ := by
  rw [Finset.sdiff_empty, duties_d, bigSep_singleton, payload_d]

end Sched

/-! ## What is still to come, what is done

A family over the fifteen offsets, its first `i` members gone (`todo`) or its first `i` members there (`done`). -/

def todo (i : ℕ) (Φ : Fin 15 → sProp 𝕄) : sProp 𝕄 := bigSep (Finset.univ.filter fun j : Fin 15 => i ≤ j.val) Φ
def done (i : ℕ) (Φ : Fin 15 → sProp 𝕄) : sProp 𝕄 := bigSep (Finset.univ.filter fun j : Fin 15 => j.val < i) Φ

omit [FloatOps F] in
theorem todo_zero (Φ : Fin 15 → sProp 𝕄) : todo 0 Φ = bigSep Finset.univ Φ := by
  unfold todo; rw [Finset.filter_true_of_mem fun j _ => Nat.zero_le _]
omit [FloatOps F] in
theorem done_all (Φ : Fin 15 → sProp 𝕄) : done 15 Φ = bigSep Finset.univ Φ := by
  unfold done; rw [Finset.filter_true_of_mem fun j _ => j.isLt]
omit [FloatOps F] in
theorem todo_end (Φ : Fin 15 → sProp 𝕄) : todo 15 Φ = (BI.emp : sProp 𝕄) := by
  unfold todo; rw [Finset.filter_false_of_mem fun j _ => by omega]; rfl
omit [FloatOps F] in
theorem done_zero (Φ : Fin 15 → sProp 𝕄) : done 0 Φ = (BI.emp : sProp 𝕄) := by
  unfold done; rw [Finset.filter_false_of_mem fun j _ => by omega]; rfl
omit [FloatOps F] in
theorem todo_step (i : Fin 15) (Φ : Fin 15 → sProp 𝕄) : todo i.val Φ = iprop(Φ i ∗ todo (i.val + 1) Φ) := by
  unfold todo
  rw [show (Finset.univ.filter fun j : Fin 15 => i.val ≤ j.val) = insert i (Finset.univ.filter fun j : Fin 15 => i.val + 1 ≤ j.val) from by
    ext j; simp only [Finset.mem_filter, Finset.mem_univ, true_and, Finset.mem_insert, Fin.ext_iff]; omega, bigSep_insert (by simp)]
  rfl
omit [FloatOps F] in
theorem done_step (i : Fin 15) (Φ : Fin 15 → sProp 𝕄) : done (i.val + 1) Φ = iprop(Φ i ∗ done i.val Φ) := by
  unfold done
  rw [show (Finset.univ.filter fun j : Fin 15 => j.val < i.val + 1) = insert i (Finset.univ.filter fun j : Fin 15 => j.val < i.val) from by
    ext j; simp only [Finset.mem_filter, Finset.mem_univ, true_and, Finset.mem_insert, Fin.ext_iff]; omega, bigSep_insert (by simp)]
  rfl

/-! ## What a device owes -/

/-- The amounts of a family over the offsets, its first `i` members paid. -/
def owing (i : ℕ) (T : Fin 15 → CellTallies nD τ sig Unit) : CellTallies nD τ sig Unit :=
  ∑ j ∈ Finset.univ.filter (fun j : Fin 15 => i ≤ j.val), T j

theorem owing_step (i : Fin 15) (T : Fin 15 → CellTallies nD τ sig Unit) : owing i.val T = owing (i.val + 1) T + T i := by
  unfold owing
  rw [show (Finset.univ.filter fun j : Fin 15 => i.val ≤ j.val) = insert i (Finset.univ.filter fun j : Fin 15 => i.val + 1 ≤ j.val) from by
    ext j; simp only [Finset.mem_filter, Finset.mem_univ, true_and, Finset.mem_insert, Fin.ext_iff]; omega,
    Finset.sum_insert (by simp), add_comm]
theorem owing_end (T : Fin 15 → CellTallies nD τ sig Unit) : owing 15 T = 0 := by
  unfold owing; rw [Finset.filter_false_of_mem fun j _ => by omega, Finset.sum_empty]

/-- Owed to the barriers, and in the two exchanges. -/
def tB (c : Dev nD) (i : Fin 15) : CellTallies nD τ sig Unit := tallyAt (barCell (fwd c i.succ)) () 1
def tD (a : Fin 4) (c : Dev nD) (i : Fin 15) : CellTallies nD τ sig Unit := tallyAt (dCell (fwd c i.succ) (a, i.succ)) () N
def O₀ (c : Dev nD) : CellTallies nD τ sig Unit := owing 0 (tD 3 c) + owing 0 (tD 1 c) + owing 0 (tB c)

def L (g : GSem nD τ sig) : Finset Unit := if g.1.2 = .tc then {()} else ∅
/-- Barrier cells at 1, cells that receive in the first exchange at 2, in the second at 3, everything else at 0. -/
def lv (g : GSem nD τ sig) (_ : Unit) : ℕ := match g.2 with
  | .reg _ => 1
  | .dma q => if q.val < 5 then 0 else if arrOf q = 1 then 2 else if arrOf q = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_d (c : Dev nD) (k : KI) : lv (dCell c k) () = if k.1 = 1 then 2 else if k.1 = 3 then 3 else 0 := by
  show (if (dsem k).val < 5 then 0 else _) = _
  rw [if_neg (by rw [dsem_val]; omega)]; simp only [arrOf_dsem]

theorem owing_pos {i : ℕ} {T : Fin 15 → CellTallies nD τ sig Unit} {g : GSem nD τ sig} {u : Unit} (h : 0 < owing i T g u) :
    ∃ j, 0 < T j g u := by
  by_contra hn
  simp only [not_exists, not_lt, Nat.le_zero] at hn
  unfold owing at h
  rw [Finset.sum_apply, Finsupp.finset_sum_apply, Finset.sum_eq_zero fun j _ => hn j] at h
  exact Nat.lt_irrefl 0 h

theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

/-- What a device may still owe lies on a TensorCore's cell at a level above `b`, when every summand does. -/
theorem mayWait_of {b : ℕ} (c : Dev nD) (sm : SemLoc sig) (hsm : lv ((c : Thread nD τ), sm) () ≤ b) (O : CellTallies nD τ sig Unit)
    (hO : ∀ g u, 0 < O g u → g.1.2 = .tc ∧ b < lv g ()) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

theorem tB_lv {c : Dev nD} {i : ℕ} {g : GSem nD τ sig} {u : Unit} (h : 0 < owing i (tB c) g u) : g.1.2 = .tc ∧ lv g () = 1 := by
  obtain ⟨j, hj⟩ := owing_pos h; rw [tallyAt_pos hj]; exact ⟨rfl, rfl⟩
theorem tD_lv {a : Fin 4} {c : Dev nD} {i : ℕ} {g : GSem nD τ sig} {u : Unit} (h : 0 < owing i (tD a c) g u) :
    g.1.2 = .tc ∧ lv g () = if a = 1 then 2 else if a = 3 then 3 else 0 := by
  obtain ⟨j, hj⟩ := owing_pos h; rw [tallyAt_pos hj]; exact ⟨rfl, lv_d _ _⟩

theorem add_pos {A B : CellTallies nD τ sig Unit} {g : GSem nD τ sig} {u : Unit} (h : 0 < (A + B) g u) : 0 < A g u ∨ 0 < B g u := by
  rw [Pi.add_apply, Finsupp.add_apply] at h; omega

/-- At the barrier wait the two exchanges are still owed. -/
theorem mayWait_bar (c : Dev nD) : (levAts L lv : sProp 𝕄) ⊢ MayWait (c : Thread nD τ) (.reg barS) () (owing 0 (tD 3 c) + owing 0 (tD 1 c)) :=
  mayWait_of (b := 1) c _ le_rfl _ fun g u h => by
    rcases add_pos h with h | h <;> obtain ⟨h1, h2⟩ := tD_lv h <;> refine ⟨h1, ?_⟩ <;> rw [h2] <;> decide
/-- At the waits of the first exchange the second is still owed. -/
theorem mayWait_d1 (c : Dev nD) (o : Fin 16) : (levAts L lv : sProp 𝕄) ⊢ MayWait (c : Thread nD τ) (.dma (dsem (1, o))) () (owing 0 (tD 3 c)) :=
  mayWait_of (b := 2) c _ (by show lv (dCell c (1, o)) () ≤ 2; rw [lv_d]; exact le_rfl) _ fun g u h => by
    obtain ⟨h1, h2⟩ := tD_lv h; refine ⟨h1, ?_⟩; rw [h2]; decide
/-- A staging semaphore may be waited on at any time. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine mayWait_of (b := 0) c _ (by show (if q.val < 5 then 0 else _) ≤ 0; rw [if_pos hq]) _ fun g u h => ?_
    rcases add_pos h with h | h
    · rcases add_pos h with h | h <;> obtain ⟨h1, h2⟩ := tD_lv h <;> refine ⟨h1, ?_⟩ <;> rw [h2] <;> decide
    · obtain ⟨h1, h2⟩ := tB_lv h; refine ⟨h1, ?_⟩; rw [h2]; decide
  · rw [MayWait_zero]; iintro -; iempintro

end Cert.Moe

end
-- ==== Proof.Moe.Steps.lean ====
/-
# One step of the exchange

A rule for each kind of effect the body has: a signal, the barrier wait, a copy, a wait for a copy, the
load of a landed block, the store of the sum. Each takes the state of its phase at offset `i + 1` to the
state at the next offset; `R` is whatever the phase leaves alone.
-/
module

public import proofs.«01_k».proof.Proof.Moe.Cells

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program on core `c` runs to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Option KI → ℕ)

/-- What every device knows: each cell's invariant, that each has reached round 0, the levels. -/
def known : sProp 𝕄 :=
  iprop((bigSep Finset.univ fun ck : Dev nD × Option KI => cellInv ER (rd m) (K ck) (kcell ck))
    ∗ (bigSep Finset.univ fun ck : Dev nD × Option KI => reached ER (kcell ck) 0) ∗ levAts L lv)

instance known_persistent : BI.Persistent (known m K) := by unfold known; infer_instance

theorem known_inv (ck : Dev nD × Option KI) : known m K ⊢ cellInv ER (rd m) (K ck) (kcell ck) := by
  unfold known
  exact sep_elim_left.trans (bigSep_elim (Finset.mem_univ ck))
theorem known_reached (ck : Dev nD × Option KI) : known m K ⊢ reached ER (kcell ck) 0 := by
  unfold known
  exact sep_elim_right.trans (sep_elim_left.trans (bigSep_elim (Finset.mem_univ ck)))
theorem known_lev : known m K ⊢ (levAts L lv : sProp 𝕄) := by
  unfold known; iintro ⟨-, -, H⟩; iexact H

/-- What device `c` owes, whatever it has waited for. -/
def owesAny (c : Dev nD) (O : CellTallies nD τ sig Unit) : sProp 𝕄 := iprop(∃ W, owes (c : Thread nD τ) O W)

variable (c : Dev nD)

/-! ## The barrier -/

/-- The signals from offset `i + 1` on are to come: each has its duty's token, a slot and a block of the result to hand over. -/
def sigSt (i : ℕ) : sProp 𝕄 :=
  iprop(owesAny c (owing 0 (tD 3 c) + owing 0 (tD 1 c) + owing i (tB c))
    ∗ todo i fun j => iprop(dutyTok ER (barCell (fwd c j.succ)) 0 j.rev ∗ (∃ X, owns (c : Thread nD τ) (pSlot j.rev.succ) fullShare X)
        ∗ (∃ X, owns (c : Thread nD τ) (oRow (fwd c j.succ)) fullShare X)))

theorem step_signal {α : Type} {Q : α → sProp 𝕄} {R : sProp 𝕄} (i : Fin 15) (n : Dev nD) (hn : n = fwd c i.succ) (s : Sem sig) (hs : s = barS) (u : ℤ) (hu : u = ((1 : ℕ) : ℤ))
    {k : PUnit → Prog (TpuEff nD τ sig (Elt F) Λ₀ .tc) α}
    (h : iprop(known m K ∗ sigSt c (i.val + 1) ∗ R) ⊢ WP c (k ⟨⟩) Q) :
    iprop(known m K ∗ sigSt c i.val ∗ R) ⊢ WP c (.op (.semSignal (n : Thread nD τ) s u) k) Q := by
  subst hn hs hu
  unfold sigSt at h ⊢
  rw [todo_step]
  iintro ⟨#HP, ⟨Ho, ⟨Htok, Hslot, Hrow⟩, Htodo⟩, HR⟩
  unfold owesAny at h ⊢
  icases Ho with ⟨%W, HO⟩
  iapply (Rounds.wp_signal 𝒱₀ ER (rd m) (c : Thread nD τ) none (dst := (fwd c i.succ : Thread nD τ)) (κ := K (fwd c i.succ, none))
      (d := i.rev) (by rw [duties_bar]; exact Finset.mem_univ _) (amount_bar m (fwd c i.succ) i.rev) ()
      (owing 0 (tD 3 c) + owing 0 (tD 1 c) + owing (i.val + 1) (tB c)) (O₀ := owing 0 (tD 3 c) + owing 0 (tD 1 c) + owing i.val (tB c)) (by rw [owing_step i (tB c), ← add_assoc]; rfl))
    $$ [HO Htok Hslot Hrow]
  · isplitr; · iapply (known_inv m K (fwd c i.succ, none)); iexact HP
    isplitl [HO]; · iexact HO
    isplitl [Htok]; · iexact Htok
    isplitl [Hslot Hrow]
    · rw [payload_bar]; unfold barPay; rw [fwd_rev]
      isplitl [Hslot] <;> iassumption
    · iapply (known_reached m K (fwd c i.succ, none)); iexact HP
  iintro HO
  iapply h
  isplitr; · iexact HP
  isplitl [HO Htodo]
  · isplitl [HO]; · iexists W; iexact HO
    iexact Htodo
  iexact HR

/-- The barrier wait: every other device's slot and block of the result that `c` is to fill. -/
theorem step_barrier {α : Type} {Q : α → sProp 𝕄} {R : sProp 𝕄} (s : Sem sig) (hs : s = barS) (u : ℤ) (hu : u = ((15 : ℕ) : ℤ))
    {k : PUnit → Prog (TpuEff nD τ sig (Elt F) Λ₀ .tc) α}
    (h : iprop(known m K ∗ (owesAny c (owing 0 (tD 3 c) + owing 0 (tD 1 c)) ∗ semVal (barCell c) 0 ∗ bigSep Finset.univ (fun i => barPay c i)) ∗ R)
      ⊢ WP c (k ⟨⟩) Q) :
    iprop(known m K ∗ (sigSt c 15 ∗ cred (tallyAt (barCell c) () 15) ∗ atPos ER (barCell c) 0 ∅ 0) ∗ R)
      ⊢ WP c (.op (.semWait s u) k) Q := by
  subst hs hu
  have hM := BIBase.Entails.trans (@known_lev F _ m K) (mayWait_bar (F := F) c)
  unfold sigSt
  rw [todo_end, owing_end, add_zero]
  iintro ⟨#HP, ⟨⟨Ho, -⟩, Hc, Hat⟩, HR⟩
  unfold owesAny at h ⊢
  icases Ho with ⟨%W, HO⟩
  iapply (Rounds.wp_wait_rest_token 𝒱₀ ER (rd m) (c : Thread nD τ) none (κ := K (c, none))
      (wpE_semWait_eq 𝒱₀ (c : Thread nD τ) none Set.univ) (Set.mem_univ _) () (O := owing 0 (tD 3 c) + owing 0 (tD 1 c)) (W := W) (R := 0) (m := 0) (T := ∅)
      (by rw [expect_bar])) $$ [Hc HO Hat]
  · isplitr; · iapply (known_inv m K (c, none)); iexact HP
    isplitl [Hc]; · iexact Hc
    isplitl [HO]; · iexact HO
    isplitr; · iapply hM; iexact HP
    iexact Hat
  iintro ⟨HO, Hat, -, Hpay⟩
  ihave Hp := (Entails.of_eq (rest_bar m c)) $$ Hpay
  imod (Rounds.cell_close ER (rd m) (Set.mem_univ (K (c, none))) (fun h => h) (R := 0 + 1) (duties_later m (barCell c))) $$ [Hat] with Hz
  · isplitr; · iapply (known_inv m K (c, none)); iexact HP
    iexact Hat
  iapply h
  isplitr; · iexact HP
  isplitl [HO Hz Hp]
  · isplitl [HO]; · iexists _; iexact HO
    isplitl [Hz] <;> iassumption
  iexact HR

/-! ## A copy -/

/-- A copy at offset `o` of a block read at a share `q`, under the cells `(a, o)` here and `(a', o)` there. -/
theorem step_send {α : Type} {Q : α → sProp 𝕄} {R : sProp 𝕄} (a a' : Fin 4) (i : Fin 15) (n : Dev nD) (hn : n = fwd c i.succ)
    {src src' : Memref sig .tc .vmem S64x512 .f32} (hsrc' : src = src') {dst : Memref sig (Dev.tc n : Thread nD τ).2.kind .vmem S64x512 .f32}
    {dst' : Memref sig .tc .vmem S64x512 .f32} (hdst' : dst = dst')
    {s₁ s₂ : DmaSem sig} (hs₁ : s₁ = dsem (a, i.succ)) (hs₂ : s₂ = dsem (a', i.succ))
    {q : PosShare TreeShare} {X : Vec F S64x512 .f32} (hN : dst'.view.dmaCredit = N)
    (hp₁ : dmaPay m c a i.succ = owns (c : Thread nD τ) src' q X)
    (hp₂ : dmaPay m (fwd c i.succ) a' i.succ = owns (fwd c i.succ : Thread nD τ) dst' fullShare X)
    {hsc : dst.view.ref.isScScratch = false} {hsrc : src.view.WordExact} {hdst : dst.view.WordExact}
    {hsem : DmaTarget.Typed .vmem (.dma s₂) (.remote (Dev.tc n : Thread nD τ) dst (.dma s₁) hsc)}
    {O : CellTallies nD τ sig Unit}
    {k : PUnit → Prog (TpuEff nD τ sig (Elt F) Λ₀ .tc) α}
    (h : iprop(known m K ∗ (owesAny c O ∗ cred (tallyAt (dCell c (a, i.succ)) () N)) ∗ R) ⊢ WP c (k ⟨⟩) Q) :
    iprop(known m K ∗ (owesAny c (O + tallyAt (dCell (fwd c i.succ) (a', i.succ)) () N) ∗ owns (c : Thread nD τ) src' q X
        ∗ (∃ Y, owns (fwd c i.succ : Thread nD τ) dst' fullShare Y)
        ∗ dutyTok ER (dCell c (a, i.succ)) 0 0 ∗ dutyTok ER (dCell (fwd c i.succ) (a', i.succ)) 0 0) ∗ R)
      ⊢ WP c (.op (.enqueueDma src (.remote (Dev.tc n : Thread nD τ) dst (.dma s₁) hsc) (.dma s₂) hsrc hdst hsem) k) Q := by
  subst hn
  subst hsrc' hdst' hs₁ hs₂
  unfold owesAny at h ⊢
  iintro ⟨#HP, ⟨⟨%W, HO⟩, Hsrc, ⟨%Y, Hdst⟩, Ht₁, Ht₂⟩, HR⟩
  ihave Hs' := (show owns (c : Thread nD τ) src q X ⊢ iprop(∃ f, ⌜src.view.read (Elt F) f = X⌝ ∗ (src.view.loc (c : Thread nD τ) ↦[src.view.set]{q} f)) from .rfl) $$ Hsrc
  icases Hs' with ⟨%fs, %hfs, Hsrc⟩
  ihave Hd' := (show owns (fwd c i.succ : Thread nD τ) dst fullShare Y ⊢ iprop(∃ f, ⌜dst.view.read (Elt F) f = Y⌝ ∗ (dst.view.loc (fwd c i.succ : Thread nD τ) ↦[dst.view.set]{fullShare} f)) from .rfl) $$ Hdst
  icases Hd' with ⟨%fd, %hfd, Hdst⟩
  iapply (Rounds.wp_send_pointsTo 𝒱₀ ER (rd m) (c : Thread nD τ) none (κ₁ := K (c, some (a, i.succ))) (κ₂ := K (fwd c i.succ, some (a', i.succ)))
    (dst := dst) (sem := .dma (dsem (a', i.succ))) (r₁ := 0) (r₂ := 0) (d₁ := 0) (d₂ := 0) (fs := fs) (fd := fd)
    (by rw [duties_d]; exact Finset.mem_singleton_self _) (by rw [duties_d]; exact Finset.mem_singleton_self _)
    () () N hN (amount_d m c _ 0) (amount_d m (fwd c i.succ) _ 0) O rfl (W := W)
    (by rw [payload_d]; show _ ⊢ dmaPay m c a i.succ; rw [hp₁, ← hfs]; exact owns_intro _ _ _ _)
    (by
      rw [payload_d]; show _ ⊢ dmaPay m (fwd c i.succ) a' i.succ
      rw [hp₂, ← hfs]
      refine (owns_intro (fwd c i.succ : Thread nD τ) dst fullShare _).trans (Entails.of_eq ?_)
      rw [View.read_write_univ])) $$ [HO Hsrc Hdst Ht₁ Ht₂]
  · isplitr; · iapply (known_inv m K (c, some (a, i.succ))); iexact HP
    isplitr; · iapply (known_inv m K (fwd c i.succ, some (a', i.succ))); iexact HP
    isplitl [Hsrc]; · iexact Hsrc
    isplitl [Hdst]; · iexact Hdst
    isplitl [HO]; · iexact HO
    isplitl [Ht₁]; · iexact Ht₁
    isplitr; · iapply (known_reached m K (c, some (a, i.succ))); iexact HP
    isplitl [Ht₂]; · iexact Ht₂
    iapply (known_reached m K (fwd c i.succ, some (a', i.succ))); iexact HP
  iintro ⟨Hc, HO⟩
  iapply h
  isplitr; · iexact HP
  isplitl [HO Hc]
  · isplitl [HO]; · iexists W; iexact HO
    iexact Hc
  iexact HR

/-- The credits of the copies sent under array `a` so far. -/
def sent (a : Fin 4) (i : ℕ) : sProp 𝕄 := done i fun j => cred (tallyAt (dCell c (a, j.succ)) () N)

/-- First exchange: the copies from offset `i + 1` on are to come. -/
def sendSt1 (i : ℕ) : sProp 𝕄 :=
  iprop(owesAny c (owing 0 (tD 3 c) + owing i (tD 1 c))
    ∗ (todo i fun j => iprop(owns (c : Thread nD τ) (aRow (fwd c j.succ)) fullShare (accRow m c (fwd c j.succ))
        ∗ (∃ X, owns (fwd c j.succ : Thread nD τ) (pSlot j.succ) fullShare X)
        ∗ dutyTok ER (dCell c (0, j.succ)) 0 0 ∗ dutyTok ER (dCell (fwd c j.succ) (1, j.succ)) 0 0))
    ∗ sent c 0 i)

/-- Second exchange: likewise. -/
def sendSt2 (i : ℕ) : sProp 𝕄 :=
  iprop(owesAny c (owing i (tD 3 c))
    ∗ (todo i fun j => iprop(owns (c : Thread nD τ) (oRow c) (shr j.val) (red m c)
        ∗ (∃ X, owns (fwd c j.succ : Thread nD τ) (oRow c) fullShare X)
        ∗ dutyTok ER (dCell c (2, j.succ)) 0 0 ∗ dutyTok ER (dCell (fwd c j.succ) (3, j.succ)) 0 0))
    ∗ sent c 2 i)

theorem step_send1 {α : Type} {Q : α → sProp 𝕄} {R : sProp 𝕄} (i : Fin 15) (n : Dev nD) (hn : n = fwd c i.succ)
    {src : Memref sig .tc .vmem S64x512 .f32} (hsrc' : src = aRow (fwd c i.succ)) {dst : Memref sig (Dev.tc n : Thread nD τ).2.kind .vmem S64x512 .f32}
    (hdst' : dst = pSlot i.succ)
    {s₁ s₂ : DmaSem sig} (hs₁ : s₁ = dsem (0, i.succ)) (hs₂ : s₂ = dsem (1, i.succ))
    {hsc : dst.view.ref.isScScratch = false} {hsrc : src.view.WordExact} {hdst : dst.view.WordExact}
    {hsem : DmaTarget.Typed .vmem (.dma s₂) (.remote (Dev.tc n : Thread nD τ) dst (.dma s₁) hsc)}
    {k : PUnit → Prog (TpuEff nD τ sig (Elt F) Λ₀ .tc) α}
    (h : iprop(known m K ∗ sendSt1 m c (i.val + 1) ∗ R) ⊢ WP c (k ⟨⟩) Q) :
    iprop(known m K ∗ sendSt1 m c i.val ∗ R)
      ⊢ WP c (.op (.enqueueDma src (.remote (Dev.tc n : Thread nD τ) dst (.dma s₁) hsc) (.dma s₂) hsrc hdst hsem) k) Q := by
  refine BIBase.Entails.trans ?_ (step_send m K c 0 1 i n hn hsrc' hdst' hs₁ hs₂ (credit_slot i.succ) (q := fullShare)
    (X := accRow m c (fwd c i.succ)) rfl (by show owns _ _ _ (accRow m (bwd (fwd c i.succ) i.succ) (fwd c i.succ)) = _; rw [bwd_fwd])
    (O := owing 0 (tD 3 c) + owing (i.val + 1) (tD 1 c))
    (R := iprop((todo (i.val + 1) fun j => iprop(owns (c : Thread nD τ) (aRow (fwd c j.succ)) fullShare (accRow m c (fwd c j.succ))
        ∗ (∃ X, owns (fwd c j.succ : Thread nD τ) (pSlot j.succ) fullShare X)
        ∗ dutyTok ER (dCell c (0, j.succ)) 0 0 ∗ dutyTok ER (dCell (fwd c j.succ) (1, j.succ)) 0 0))
      ∗ sent c 0 i.val ∗ R)) (BIBase.Entails.trans ?_ h))
  · unfold sendSt1
    rw [todo_step, owing_step i (tD 1 c), ← add_assoc]
    iintro ⟨#HP, ⟨Ho, ⟨⟨Ha, Hp, Ht₁, Ht₂⟩, Htodo⟩, Hd⟩, HR⟩
    isplitr; · iexact HP
    isplitl [Ho Ha Hp Ht₁ Ht₂]
    · isplitl [Ho]; · iexact Ho
      isplitl [Ha]; · iexact Ha
      isplitl [Hp]; · iexact Hp
      isplitl [Ht₁] <;> iassumption
    isplitl [Htodo]; · iexact Htodo
    isplitl [Hd]; · iexact Hd
    iexact HR
  · unfold sendSt1 sent
    rw [done_step]
    iintro ⟨#HP, ⟨Ho, Hc⟩, Htodo, Hd, HR⟩
    isplitr; · iexact HP
    isplitr [HR]
    · isplitl [Ho]; · iexact Ho
      isplitl [Htodo]; · iexact Htodo
      isplitl [Hc] <;> iassumption
    iexact HR

theorem step_send2 {α : Type} {Q : α → sProp 𝕄} {R : sProp 𝕄} (i : Fin 15) (n : Dev nD) (hn : n = fwd c i.succ)
    {src : Memref sig .tc .vmem S64x512 .f32} (hsrc' : src = oRow c) {dst : Memref sig (Dev.tc n : Thread nD τ).2.kind .vmem S64x512 .f32}
    (hdst' : dst = oRow c)
    {s₁ s₂ : DmaSem sig} (hs₁ : s₁ = dsem (2, i.succ)) (hs₂ : s₂ = dsem (3, i.succ))
    {hsc : dst.view.ref.isScScratch = false} {hsrc : src.view.WordExact} {hdst : dst.view.WordExact}
    {hsem : DmaTarget.Typed .vmem (.dma s₂) (.remote (Dev.tc n : Thread nD τ) dst (.dma s₁) hsc)}
    {k : PUnit → Prog (TpuEff nD τ sig (Elt F) Λ₀ .tc) α}
    (h : iprop(known m K ∗ sendSt2 m c (i.val + 1) ∗ R) ⊢ WP c (k ⟨⟩) Q) :
    iprop(known m K ∗ sendSt2 m c i.val ∗ R)
      ⊢ WP c (.op (.enqueueDma src (.remote (Dev.tc n : Thread nD τ) dst (.dma s₁) hsc) (.dma s₂) hsrc hdst hsem) k) Q := by
  refine BIBase.Entails.trans ?_ (step_send m K c 2 3 i n hn hsrc' hdst' hs₁ hs₂ (credit_orow c) (q := shr i.val)
    (X := red m c) rfl (by show owns (fwd c i.succ : Thread nD τ) (oRow (bwd (fwd c i.succ) i.succ)) _ (red m (bwd (fwd c i.succ) i.succ)) = _; rw [bwd_fwd])
    (O := owing (i.val + 1) (tD 3 c))
    (R := iprop((todo (i.val + 1) fun j => iprop(owns (c : Thread nD τ) (oRow c) (shr j.val) (red m c)
        ∗ (∃ X, owns (fwd c j.succ : Thread nD τ) (oRow c) fullShare X)
        ∗ dutyTok ER (dCell c (2, j.succ)) 0 0 ∗ dutyTok ER (dCell (fwd c j.succ) (3, j.succ)) 0 0))
      ∗ sent c 2 i.val ∗ R)) (BIBase.Entails.trans ?_ h))
  · unfold sendSt2
    rw [todo_step, owing_step i (tD 3 c)]
    iintro ⟨#HP, ⟨Ho, ⟨⟨Ha, Hp, Ht₁, Ht₂⟩, Htodo⟩, Hd⟩, HR⟩
    isplitr; · iexact HP
    isplitl [Ho Ha Hp Ht₁ Ht₂]
    · isplitl [Ho]; · iexact Ho
      isplitl [Ha]; · iexact Ha
      isplitl [Hp]; · iexact Hp
      isplitl [Ht₁] <;> iassumption
    isplitl [Htodo]; · iexact Htodo
    isplitl [Hd]; · iexact Hd
    iexact HR
  · unfold sendSt2 sent
    rw [done_step]
    iintro ⟨#HP, ⟨Ho, Hc⟩, Htodo, Hd, HR⟩
    isplitr; · iexact HP
    isplitr [HR]
    · isplitl [Ho]; · iexact Ho
      isplitl [Htodo]; · iexact Htodo
      isplitl [Hc] <;> iassumption
    iexact HR

/-! ## A wait for a copy -/

/-- The waits on array `a` from offset `i + 1` on are to come; the earlier ones brought their payments and left their cells closed. -/
def waitSt (a : Fin 4) (O : CellTallies nD τ sig Unit) (i : ℕ) : sProp 𝕄 :=
  iprop(owesAny c O
    ∗ (todo i fun j => iprop(atPos ER (dCell c (a, j.succ)) 0 ∅ 0 ∗ cred (tallyAt (dCell c (a, j.succ)) () N)))
    ∗ (done i fun j => iprop(semVal (dCell c (a, j.succ)) 0 ∗ dmaPay m c a j.succ)))

theorem step_wait {α : Type} {Q : α → sProp 𝕄} {R : sProp 𝕄} (a : Fin 4) (O : CellTallies nD τ sig Unit) (i : Fin 15)
    (hO : (levAts L lv : sProp 𝕄) ⊢ MayWait (c : Thread nD τ) (.dma (dsem (a, i.succ))) () O)
    {s₁ : DmaSem sig} (hs₁ : s₁ = dsem (a, i.succ)) {src dst : Memref sig .tc .vmem S64x512 .f32} (hN : dst.view.dmaCredit = N)
    {hsrc : src.view.WordExact} {hdst : dst.view.WordExact}
    {k : PUnit → Prog (TpuEff nD τ sig (Elt F) Λ₀ .tc) α}
    (h : iprop(known m K ∗ waitSt m c a O (i.val + 1) ∗ R) ⊢ WP c (k ⟨⟩) Q) :
    iprop(known m K ∗ waitSt m c a O i.val ∗ R) ⊢ WP c (.op (.waitDma2 s₁ src dst hsrc hdst) k) Q := by
  subst hs₁
  have hM := BIBase.Entails.trans (@known_lev F _ m K) hO
  unfold waitSt at h ⊢
  rw [done_step] at h
  rw [todo_step]
  unfold owesAny at h ⊢
  iintro ⟨#HP, ⟨⟨%W, HO⟩, ⟨⟨Hat, Hc⟩, Htodo⟩, Hdone⟩, HR⟩
  iapply (Rounds.wp_wait_rest_token 𝒱₀ ER (rd m) (c : Thread nD τ) none (κ := K (c, some (a, i.succ)))
      (wpE_waitDma2_eq 𝒱₀ (c : Thread nD τ) none Set.univ) (Set.mem_univ _) () (O := O) (W := W) (R := 0) (m := 0) (T := ∅)
      (by rw [expect_d, Nat.zero_add, hN])) $$ [Hc HO Hat]
  · isplitr; · iapply (known_inv m K (c, some (a, i.succ))); iexact HP
    isplitl [Hc]; · rw [hN]; iexact Hc
    isplitl [HO]; · iexact HO
    isplitr; · iapply hM; iexact HP
    iexact Hat
  iintro ⟨HO, Hat, -, Hpay⟩
  ihave Hp := (Entails.of_eq (rest_d m c a i)) $$ Hpay
  imod (Rounds.cell_close ER (rd m) (Set.mem_univ (K (c, some (a, i.succ)))) (fun h => h) (R := 0 + 1) (duties_later m (dCell c (a, i.succ)))) $$ [Hat] with Hz
  · isplitr; · iapply (known_inv m K (c, some (a, i.succ))); iexact HP
    iexact Hat
  iapply h
  isplitr; · iexact HP
  isplitr [HR]
  · isplitl [HO]; · iexists _; iexact HO
    isplitl [Htodo]; · iexact Htodo
    isplitr [Hdone]
    · isplitl [Hz] <;> iassumption
    iexact Hdone
  iexact HR

theorem mayWait_nothing (sm : SemLoc sig) : (levAts L lv : sProp 𝕄) ⊢ MayWait (c : Thread nD τ) sm () 0 := by
  rw [MayWait_zero]; iintro -; iempintro

/-! ## Loads and stores of a block -/

/-- Loading a landed block. -/
theorem step_load_slot {α : Type} {Q : α → sProp 𝕄} {R : sProp 𝕄} (O : CellTallies nD τ sig Unit) (i : Fin 15) {r : Rect S16x64x512} (hr : r = slotR i.succ)
    {hl : (pM : Memref sig .tc .vmem S16x64x512 .f32).view.LoadsAt r.toLoadRect}
    {k : Vec F r.shape .f32 → Prog (TpuEff nD τ sig (Elt F) Λ₀ .tc) α}
    (h : iprop(known m K ∗ waitSt m c 1 O (i.val + 1) ∗ R) ⊢ WP c (k (hr ▸ got m c i.succ)) Q) :
    iprop(known m K ∗ waitSt m c 1 O (i.val + 1) ∗ R) ⊢ WP c (.op (.load pM r.toLoadRect hl) k) Q := by
  subst hr
  unfold waitSt at h ⊢
  rw [done_step] at h ⊢
  iintro ⟨#HP, ⟨Ho, Htodo, ⟨Hz, Hslot⟩, Hdone⟩, HR⟩
  ihave Hs' := (show dmaPay m c 1 i.succ ⊢ iprop(∃ f, ⌜(pSlot i.succ).view.read (Elt F) f = accRow m (bwd c i.succ) c⌝
      ∗ ((pSlot i.succ).view.loc (c : Thread nD τ) ↦[(pSlot i.succ).view.set]{fullShare} f)) from .rfl) $$ Hslot
  icases Hs' with ⟨%f, %hf, Hs⟩
  iapply (wp_load 𝒱₀ (c : Thread nD τ) none Set.univ (m := pM) (r := (slotR i.succ).toLoadRect) (S := (pSlot i.succ).view.set) (by
    show _ ⊆ (pSlot i.succ).view.set
    rw [show (pSlot i.succ).view.set = (pSlab i.succ).view.set from View.set_reshape _ _]
    show _ ⊆ (pM.view.slice (slotR i.succ)).set
    rw [View.set_slice]; exact subset_rfl)) $$ Hs
  iintro Hs
  have hv : (pM.view.readAt (Elt F) (slotR i.succ).toLoadRect f) = got m c i.succ := by
    unfold got slab
    rw [← hf]
    funext x
    show _ = (pSlab i.succ).view.read (Elt F) f (Shape.reshapeEquiv _ ((Shape.reshapeEquiv _).symm x))
    rw [Equiv.apply_symm_apply]; rfl
  rw [hv]
  iapply h
  isplitr; · iexact HP
  isplitr [HR]
  · isplitl [Ho]; · iexact Ho
    isplitl [Htodo]; · iexact Htodo
    isplitr [Hdone]
    · isplitl [Hz]; · iexact Hz
      iapply (show iprop(∃ f, ⌜(pSlot i.succ).view.read (Elt F) f = accRow m (bwd c i.succ) c⌝
        ∗ ((pSlot i.succ).view.loc (c : Thread nD τ) ↦[(pSlot i.succ).view.set]{fullShare} f)) ⊢ dmaPay m c 1 i.succ from .rfl)
      iexists f
      isplitr; · ipureintro; exact hf
      iexact Hs
    iexact Hdone
  iexact HR

/-- A rectangle of 64 rows at equal offsets. -/
theorem rows_eq {off : Fin 2 → Nat} {j : Fin 16} (h : off = ![64 * j.val, 0]) (hi : ∀ a, off a + S64x512.size a ≤ S1024x512.size a) :
    (Rect.unit (s := S1024x512) off S64x512.size hi) = rowsR j := by subst h; rfl
theorem slice_rows {off : Fin 2 → Nat} {j : Fin 16} (h : off = ![64 * j.val, 0]) (hi : ∀ a, off a + S64x512.size a ≤ S1024x512.size a)
    (M : Memref sig .tc .vmem S1024x512 .f32) :
    (M.slice (Rect.unit (s := S1024x512) off S64x512.size hi) (fun _ => rfl) : Memref sig .tc .vmem S64x512 .f32) = M.slice (rowsR j) (fun _ => rfl) := by
  subst h; rfl

/-- Loading the device's own block of its accumulator. -/
theorem step_load_row {α : Type} {Q : α → sProp 𝕄} {R : sProp 𝕄} {off : Fin 2 → Nat} (ho : off = ![64 * c.val, 0]) {hi : ∀ a, off a + S64x512.size a ≤ S1024x512.size a}
    {hl : (aM : Memref sig .tc .vmem S1024x512 .f32).view.LoadsAt (Rect.unit (s := S1024x512) off S64x512.size hi).toLoadRect}
    {k : Vec F S64x512 .f32 → Prog (TpuEff nD τ sig (Elt F) Λ₀ .tc) α}
    (h : iprop(owns (c : Thread nD τ) (aRow c) fullShare (accRow m c c) ∗ R) ⊢ WP c (k (accRow m c c)) Q) :
    iprop(owns (c : Thread nD τ) (aRow c) fullShare (accRow m c c) ∗ R)
      ⊢ WP c (.op (.load aM (Rect.unit (s := S1024x512) off S64x512.size hi).toLoadRect hl) k) Q := by
  subst ho
  iintro ⟨Hrow, HR⟩
  ihave Hs' := (show owns (c : Thread nD τ) (aRow c) fullShare (accRow m c c) ⊢ iprop(∃ f, ⌜(aRow c).view.read (Elt F) f = accRow m c c⌝
      ∗ ((aRow c).view.loc (c : Thread nD τ) ↦[(aRow c).view.set]{fullShare} f)) from .rfl) $$ Hrow
  icases Hs' with ⟨%f, %hf, Hs⟩
  iapply (wp_load 𝒱₀ (c : Thread nD τ) none Set.univ (m := aM) (r := (rowsR c).toLoadRect) (S := (aRow c).view.set) (by
    show _ ⊆ (aM.view.slice (rowsR c)).set
    rw [View.set_slice]; exact subset_rfl)) $$ Hs
  iintro Hs
  rw [show (aM.view.readAt (Elt F) (rowsR c).toLoadRect f) = accRow m c c from hf]
  iapply h
  isplitr [HR]
  · unfold owns
    iexists f
    isplitr; · ipureintro; exact hf
    iexact Hs
  iexact HR

/-- Loading the device's own block of its result, whatever is there. -/
theorem step_load_out {α : Type} {Q : α → sProp 𝕄} {R : sProp 𝕄} {off : Fin 2 → Nat} (ho : off = ![64 * c.val, 0]) {hi : ∀ a, off a + S64x512.size a ≤ S1024x512.size a}
    {hl : (oM : Memref sig .tc .vmem S1024x512 .f32).view.LoadsAt (Rect.unit (s := S1024x512) off S64x512.size hi).toLoadRect}
    {k : Vec F S64x512 .f32 → Prog (TpuEff nD τ sig (Elt F) Λ₀ .tc) α}
    (h : ∀ v, iprop((∃ X, owns (c : Thread nD τ) (oRow c) fullShare X) ∗ R) ⊢ WP c (k v) Q) :
    iprop((∃ X, owns (c : Thread nD τ) (oRow c) fullShare X) ∗ R)
      ⊢ WP c (.op (.load oM (Rect.unit (s := S1024x512) off S64x512.size hi).toLoadRect hl) k) Q := by
  subst ho
  iintro ⟨⟨%X, Hrow⟩, HR⟩
  ihave Hs' := (show owns (c : Thread nD τ) (oRow c) fullShare X ⊢ iprop(∃ f, ⌜(oRow c).view.read (Elt F) f = X⌝
      ∗ ((oRow c).view.loc (c : Thread nD τ) ↦[(oRow c).view.set]{fullShare} f)) from .rfl) $$ Hrow
  icases Hs' with ⟨%f, %hf, Hs⟩
  iapply (wp_load 𝒱₀ (c : Thread nD τ) none Set.univ (m := oM) (r := (rowsR c).toLoadRect) (S := (oRow c).view.set) (by
    show _ ⊆ (oM.view.slice (rowsR c)).set
    rw [View.set_slice]; exact subset_rfl)) $$ Hs
  iintro Hs
  iapply (h _)
  isplitl [Hs]
  · iexists X
    iapply (show iprop(∃ f, ⌜(oRow c).view.read (Elt F) f = X⌝
      ∗ ((oRow c).view.loc (c : Thread nD τ) ↦[(oRow c).view.set]{fullShare} f)) ⊢ owns (c : Thread nD τ) (oRow c) fullShare X from .rfl)
    iexists f
    isplitr; · ipureintro; exact hf
    iexact Hs
  iexact HR

/-- Storing the summed block. -/
theorem step_store_row {α : Type} {Q : α → sProp 𝕄} {R : sProp 𝕄} {off : Fin 2 → Nat} (ho : off = ![64 * c.val, 0]) {hi : ∀ a, off a + S64x512.size a ≤ S1024x512.size a}
    {w : Vec F S64x512 .f32}
    {hx : (oM.access (Rect.unit (s := S1024x512) off S64x512.size hi)).Stores Finset.univ}
    {hm : (Finset.univ : Finset S64x512.Idx) = Finset.univ ∨ ∀ a, (Rect.unit (s := S1024x512) off S64x512.size hi).stride a = 1}
    {k : PUnit → Prog (TpuEff nD τ sig (Elt F) Λ₀ .tc) α}
    (h : iprop(owns (c : Thread nD τ) (oRow c) fullShare w ∗ R) ⊢ WP c (k ⟨⟩) Q) :
    iprop((∃ X, owns (c : Thread nD τ) (oRow c) fullShare X) ∗ R)
      ⊢ WP c (.op (.store oM (Rect.unit (s := S1024x512) off S64x512.size hi) w Finset.univ hx hm) k) Q := by
  subst ho
  iintro ⟨⟨%X, Hrow⟩, HR⟩
  ihave Hs' := (show owns (c : Thread nD τ) (oRow c) fullShare X ⊢ iprop(∃ f, ⌜(oRow c).view.read (Elt F) f = X⌝
      ∗ ((oRow c).view.loc (c : Thread nD τ) ↦[(oRow c).view.set]{fullShare} f)) from .rfl) $$ Hrow
  icases Hs' with ⟨%f, %hf, Hs⟩
  iapply (wp_store 𝒱₀ (c : Thread nD τ) none Set.univ (m := oM) (r := rowsR c) (Mk := Finset.univ) (S := (oRow c).view.set) (by
    show (oM.view.slice (rowsR c)).set ⊆ _; exact subset_rfl)) $$ Hs
  iintro Hs
  iapply h
  isplitr [HR]
  · unfold owns
    iexists _
    isplitr
    rotate_left
    · iexact Hs
    · ipureintro; exact View.read_write_univ _ _
  iexact HR

end Cert.Moe

end
-- ==== Proof.Moe.Blocks.lean ====
/-
# Blocks of rows and landing slots

The result and the accumulator as their sixteen blocks of 64 rows, the landing buffer as its sixteen slots,
and families over the sixteen devices read from one device outwards.
-/
module

public import proofs.«01_k».proof.Proof.Moe.Cells

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Families over offsets and devices -/

/-- The device an offset away, offset by offset. -/
def around (c : Dev nD) : Fin 16 ≃ Dev nD :=
  ⟨fun o => fwd c o, fun d => fwd ⟨d.val, d.isLt⟩ ⟨(16 - c.val) % 16, Nat.mod_lt _ (by decide)⟩,
    fun o => by revert c o; decide, fun d => by revert c d; decide⟩
/-- The same, the other way round. -/
def aroundBack (c : Dev nD) : Fin 16 ≃ Dev nD :=
  ⟨fun o => bwd c o, fun d => bwd c ⟨d.val, d.isLt⟩, fun o => by revert c o; decide, fun d => by revert c d; decide⟩

omit [FloatOps F] in
theorem sep_offsets (Φ : Fin 16 → sProp 𝕄) :
    bigSep Finset.univ Φ = iprop(Φ 0 ∗ bigSep Finset.univ fun i : Fin 15 => Φ i.succ) := by
  have h : (Finset.univ : Finset (Fin 16)) = insert 0 (Finset.univ.map (Fin.succEmb 15)) := by
    ext j; simp only [Finset.mem_univ, Finset.mem_insert, Finset.mem_map, true_and, true_iff]
    rcases Fin.eq_zero_or_eq_succ j with h | ⟨k, rfl⟩
    · exact Or.inl h
    · exact Or.inr ⟨k, rfl⟩
  rw [h, bigSep_insert (by simp [Fin.succ_ne_zero]), bigSep_map]; rfl
omit [FloatOps F] in
theorem sep_around (c : Dev nD) (Φ : Dev nD → sProp 𝕄) :
    bigSep Finset.univ Φ = iprop(Φ c ∗ bigSep Finset.univ fun i : Fin 15 => Φ (fwd c i.succ)) := by
  rw [bigSep_univ_equiv (around c) Φ, sep_offsets]
  show iprop(Φ (fwd c 0) ∗ _) = _
  rw [show fwd c 0 = c from by revert c; decide]; rfl
omit [FloatOps F] in
theorem sep_aroundBack (c : Dev nD) (Φ : Dev nD → sProp 𝕄) :
    bigSep Finset.univ Φ = iprop(Φ c ∗ bigSep Finset.univ fun i : Fin 15 => Φ (bwd c i.succ)) := by
  rw [bigSep_univ_equiv (aroundBack c) Φ, sep_offsets]
  show iprop(Φ (bwd c 0) ∗ _) = _
  rw [show bwd c 0 = c from by revert c; decide]; rfl
omit [FloatOps F] in
theorem sep_rev (Φ : Fin 15 → sProp 𝕄) :
    bigSep Finset.univ Φ = bigSep Finset.univ fun i : Fin 15 => Φ i.rev := by
  rw [bigSep_univ_equiv Fin.revPerm Φ]; rfl

/-! ## Blocks of 64 rows -/

theorem rows_disjoint (j j' : Fin 16) (h : j ≠ j') : Disjoint (rowsR j).set (rowsR j').set :=
  Rect.unit_disjoint (0 : Fin 2) (by
    show 64 * j.val + 64 ≤ 64 * j'.val ∨ 64 * j'.val + 64 ≤ 64 * j.val
    have := Fin.val_ne_of_ne h; omega)
/-- The block a row lies in, and where. -/
def blkOf (x : S1024x512.Idx) : Fin 16 := ⟨(x 0).val / 64, by have : (x 0).val < 1024 := (x 0).isLt; omega⟩
def locOf (x : S1024x512.Idx) : S64x512.Idx :=
  fun | 0 => ⟨(x 0).val % 64, Nat.mod_lt _ (by decide)⟩ | 1 => x 1
theorem mem_rows (x : S1024x512.Idx) : x ∈ (rowsR (blkOf x)).set := by
  rw [Rect.mem_set_unit]
  intro a
  fin_cases a
  · show 64 * ((x 0).val / 64) ≤ (x 0).val ∧ (x 0).val < 64 * ((x 0).val / 64) + 64; omega
  · show 0 ≤ (x 1).val ∧ (x 1).val < 0 + 512
    have : (x 1).val < 512 := (x 1).isLt; omega
theorem rows_cover : (Finset.univ : Finset (Fin 16)).biUnion (fun j => (rowsR j).set) = Finset.univ := by
  ext x; simp only [Finset.mem_biUnion, Finset.mem_univ, true_and, iff_true]; exact ⟨_, mem_rows x⟩
theorem emb_rows_val (j : Fin 16) (y : S64x512.Idx) :
    (((rowsR j).emb y) 0).val = 64 * j.val + (y 0).val ∧ (((rowsR j).emb y) 1).val = (y 1).val := by
  constructor
  · show 64 * j.val + 1 * (y 0).val = _; omega
  · show 0 + 1 * (y 1).val = _; omega
theorem blkOf_emb (j : Fin 16) (y : S64x512.Idx) : blkOf ((rowsR j).emb y) = j := by
  apply Fin.ext; show (((rowsR j).emb y) 0).val / 64 = _
  rw [(emb_rows_val j y).1]; have : (y 0).val < 64 := (y 0).isLt; omega
theorem locOf_emb (j : Fin 16) (y : S64x512.Idx) : locOf ((rowsR j).emb y) = y := by
  funext a; fin_cases a
  · apply Fin.ext; show (((rowsR j).emb y) 0).val % 64 = _
    rw [(emb_rows_val j y).1]; have : (y 0).val < 64 := (y 0).isLt
    show _ = (y 0).val; omega
  · apply Fin.ext; exact (emb_rows_val j y).2

instance elt_nonempty : ∀ e, Nonempty (Elt F e)
  | .i1 | .i4 | .i8 | .i16 | .i32 | .i64 => ⟨(0 : BitVec _)⟩
  | .fp8e4m3 | .fp8e5m2 | .bf16 | .f16 | .f32 => ⟨FloatOps.ofBits _ 0⟩

/-! ## Landing slots -/

theorem slots_disjoint (o o' : Fin 16) (h : o ≠ o') : Disjoint (slotR o).set (slotR o').set :=
  Rect.unit_disjoint (0 : Fin 3) (by
    show o.val + 1 ≤ o'.val ∨ o'.val + 1 ≤ o.val
    have := Fin.val_ne_of_ne h; omega)
theorem slots_cover : (Finset.univ : Finset (Fin 16)).biUnion (fun o => (slotR o).set) = Finset.univ := by
  ext x; simp only [Finset.mem_biUnion, Finset.mem_univ, true_and, iff_true]
  have h0 : (x 0).val < 16 := (x 0).isLt
  have h1 : (x 1).val < 64 := (x 1).isLt
  have h2 : (x 2).val < 512 := (x 2).isLt
  refine ⟨⟨(x 0).val, h0⟩, ?_⟩
  rw [Rect.mem_set_unit]
  intro a
  fin_cases a
  · show (x 0).val ≤ (x 0).val ∧ (x 0).val < (x 0).val + 1; omega
  · show 0 ≤ (x 1).val ∧ (x 1).val < 0 + 64; omega
  · show 0 ≤ (x 2).val ∧ (x 2).val < 0 + 512; omega

theorem slot_set (o : Fin 16) : (pSlot o).view.set = (pSlab o).view.set := View.set_reshape _ _

theorem slabs_cover : Finset.biUnion (α := Fin 16) (β := S16x64x512.Idx) Finset.univ (fun o => (pSlab o).view.set) = Finset.univ := by
  ext x; simp only [Finset.mem_biUnion, Finset.mem_univ, true_and, iff_true]
  obtain ⟨o, -, ho⟩ := Finset.mem_biUnion.mp (slots_cover.symm ▸ Finset.mem_univ (α := S16x64x512.Idx) x)
  refine ⟨o, ?_⟩
  rw [show (pSlab o).view.set = (pM.view.slice (slotR o)).set from rfl, View.set_slice]
  exact Finset.mem_map.mpr ⟨x, ho, rfl⟩

/-! ## Owning a buffer and owning its blocks -/

variable (m : (ℓ : Loc nD τ sig) → Buf (Elt F) ℓ) (c : Dev nD)

/-- The whole result: row by row its block's sum. -/
def out : (cc0_stg4_0 : Ref sig .tc).ty.Contents (Elt F) := fun x => red m (blkOf x) (locOf x)

theorem out_emb (j : Fin 16) (y : S64x512.Idx) : out m ((rowsR j).emb y) = red m j y :=
  congrArg₂ (red m) (blkOf_emb j y) (locOf_emb j y)

theorem acc_split : (((c : Thread nD τ).loc cc0_scratch0) ↦{fullShare} (accAt m c) : sProp 𝕄)
    ⊢ bigSep Finset.univ fun j => owns (c : Thread nD τ) (aRow j) fullShare (accRow m c j) := by
  rw [← owns_whole (c : Thread nD τ) cc0_scratch0 fullShare (accAt m c)]
  exact owns_rects (c : Thread nD τ) aM fullShare rowsR (fun _ _ => rfl) rows_disjoint rows_cover (accAt m c)
theorem acc_join : (bigSep Finset.univ fun j => owns (c : Thread nD τ) (aRow j) fullShare (accRow m c j) : sProp 𝕄)
    ⊢ ((c : Thread nD τ).loc cc0_scratch0) ↦{fullShare} (accAt m c) := by
  rw [← owns_whole (c : Thread nD τ) cc0_scratch0 fullShare (accAt m c)]
  exact owns_of_rects (c : Thread nD τ) aM fullShare rowsR (fun _ _ => rfl) rows_disjoint rows_cover (accAt m c)
theorem out_split (g : (cc0_stg4_0 : Ref sig .tc).ty.Contents (Elt F)) :
    (((c : Thread nD τ).loc cc0_stg4_0) ↦{fullShare} g : sProp 𝕄)
      ⊢ bigSep Finset.univ fun j => iprop(∃ X, owns (c : Thread nD τ) (oRow j) fullShare X) := by
  rw [← owns_whole (c : Thread nD τ) cc0_stg4_0 fullShare g]
  refine BIBase.Entails.trans (owns_rects (c : Thread nD τ) oM fullShare rowsR (fun _ _ => rfl) rows_disjoint rows_cover g) (bigSep_mono fun j _ => ?_)
  show owns (c : Thread nD τ) (oRow j) fullShare (fun y => g ((rowsR j).emb y)) ⊢ (iprop(∃ X, owns (c : Thread nD τ) (oRow j) fullShare X) : sProp 𝕄)
  iintro H; iexists _; iexact H
theorem out_join : (bigSep Finset.univ fun j => owns (c : Thread nD τ) (oRow j) fullShare (red m j) : sProp 𝕄)
    ⊢ ((c : Thread nD τ).loc cc0_stg4_0) ↦{fullShare} (out m) := by
  rw [← owns_whole (c : Thread nD τ) cc0_stg4_0 fullShare (out m)]
  rw [bigSep_congr fun j _ => congrArg (fun X => (owns (c : Thread nD τ) (oRow j) fullShare X : sProp 𝕄)) (funext (out_emb m j)).symm]
  exact owns_of_rects (c : Thread nD τ) oM fullShare rowsR (fun _ _ => rfl) rows_disjoint rows_cover (out m)

/-- A block owned whole is what is left of it after fifteen shares, and the shares. -/
theorem out_shares (j : Fin 16) (X : Vec F S64x512 .f32) : (owns (c : Thread nD τ) (oRow j) fullShare X : sProp 𝕄)
    = iprop(owns (c : Thread nD τ) (oRow j) (Transfers.shareDrop fullShare 15) X
        ∗ bigSep Finset.univ fun i : Fin 15 => owns (c : Thread nD τ) (oRow j) (shr i.val) X) := by
  have key : ∀ q, (owns (c : Thread nD τ) (oRow j) q X : sProp 𝕄)
      = (oM.view.loc (c : Thread nD τ) ↦[(oM.view.slice (rowsR j)).set]{q} ((oRow j).view.write (Elt F) (Classical.arbitrary _) X Finset.univ)) := fun q => by
    rw [← owns_slice_read (c : Thread nD τ) oM q (rowsR j) (fun _ => rfl)]
    congr 1
    exact (View.read_write_univ (v := (oRow j).view) _ X).symm
  simp only [key]
  exact BI.equiv_iff.mp ⟨(Transfers.pointsTo_toks fullShare 15).1, (Transfers.pointsTo_toks fullShare 15).2⟩

theorem slots_split (g : (cc0_scratch1 : Ref sig .tc).ty.Contents (Elt F)) :
    (((c : Thread nD τ).loc cc0_scratch1) ↦{fullShare} g : sProp 𝕄)
      ⊢ bigSep Finset.univ fun o => iprop(∃ X, owns (c : Thread nD τ) (pSlot o) fullShare X) := by
  rw [← owns_whole (c : Thread nD τ) cc0_scratch1 fullShare g]
  refine BIBase.Entails.trans (owns_rects (c : Thread nD τ) pM fullShare slotR (fun _ _ => rfl) slots_disjoint slots_cover g) (bigSep_mono fun o _ => ?_)
  show owns (c : Thread nD τ) (pSlab o) fullShare _ ⊢ (iprop(∃ X, owns (c : Thread nD τ) (pSlot o) fullShare X) : sProp 𝕄)
  unfold owns
  iintro ⟨%f, -, H⟩
  iexists ((pSlot o).view.read (Elt F) f); iexists f
  isplitr; · ipureintro; rfl
  rw [slot_set]; iexact H
theorem slots_join : (bigSep Finset.univ fun o => iprop(∃ X, owns (c : Thread nD τ) (pSlot o) fullShare X) : sProp 𝕄)
    ⊢ ∃ f, ((c : Thread nD τ).loc cc0_scratch1) ↦{fullShare} f := by
  refine BIBase.Entails.trans (bigSep_mono (Ψ := fun o => iprop(∃ f : Buf (Elt F) ((c : Thread nD τ).loc cc0_scratch1),
      ((c : Thread nD τ).loc cc0_scratch1) ↦[(pSlab o).view.set]{fullShare} f)) fun o _ => ?_) ?_
  · show (iprop(∃ X, owns (c : Thread nD τ) (pSlot o) fullShare X) : sProp 𝕄) ⊢ _
    unfold owns
    iintro ⟨%X, %f, -, H⟩
    iexists f; rw [slot_set]; iexact H
  refine BIBase.Entails.trans (bigSep_exists_pi Finset.univ fun o (f : Buf (Elt F) ((c : Thread nD τ).loc cc0_scratch1)) =>
      (((c : Thread nD τ).loc cc0_scratch1) ↦[(pSlab o).view.set]{fullShare} f : sProp 𝕄)) ?_
  iintro ⟨%fs, H⟩
  ihave H' := (pointsTo_biUnion_join (q := fullShare) (ℓ := (c : Thread nD τ).loc cc0_scratch1) Finset.univ (fun o => (pSlab o).view.set) fs (fs 0) (fun o _ o' _ h => by
    rw [show (pSlab o).view.set = (pM.view.slice (slotR o)).set from rfl, show (pSlab o').view.set = (pM.view.slice (slotR o')).set from rfl,
      View.set_slice, View.set_slice]
    exact (Finset.disjoint_map _).mpr (slots_disjoint o o' h))) $$ H
  icases H' with ⟨%g, -, H⟩
  iexists g
  iapply (BIBase.Entails.of_eq (congrArg (fun S => (((c : Thread nD τ).loc cc0_scratch1) ↦[S]{fullShare} g : sProp 𝕄)) slabs_cover))
  iexact H

end Cert.Moe

end
-- ==== Proof.Moe.Body.lean ====
/-
# The body, from what a device starts with to what it ends with

`bodyIn` is what device `c` holds when its body starts and `bodyOut` what it holds when it ends: the result
buffer at the sixteen summed blocks, everything else back. Between two phases of the exchange the resources
are regrouped (`to_…`); the phases themselves are `Moe/Steps.lean`'s rules, one per effect.
-/
module

public import proofs.«01_k».proof.Proof.Moe.Steps
public import proofs.«01_k».proof.Proof.Moe.Blocks
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Option KI → ℕ)
variable (c : Dev nD)

/-! ## What a device holds -/

/-- The four staged inputs. -/
def inputs : sProp 𝕄 :=
  iprop((((c : Thread nD τ).loc cc0_stg0_0) ↦{fullShare} (xstg m c)) ∗ (((c : Thread nD τ).loc cc0_stg1_0) ↦{fullShare} (wstg m c))
    ∗ (((c : Thread nD τ).loc cc0_stg2_0) ↦{fullShare} (istg m c)) ∗ (((c : Thread nD τ).loc cc0_stg3_0) ↦{fullShare} (estg m c)))
/-- A buffer held at some contents. -/
def heldAny (b : Ref sig .tc) : sProp 𝕄 := iprop(∃ f : Buf (Elt F) ((c : Thread nD τ).loc b), ((c : Thread nD τ).loc b) ↦{fullShare} f)

/-- The tokens of the duties `c` pays: on the barriers, in the first exchange, in the second. -/
def toksB : sProp 𝕄 := bigSep Finset.univ fun i : Fin 15 => dutyTok ER (barCell (fwd c i.succ)) 0 i.rev
def toksS (a : Fin 4) : sProp 𝕄 := bigSep Finset.univ fun i : Fin 15 => dutyTok ER (dCell c (a, i.succ)) 0 0
def toksR (a : Fin 4) : sProp 𝕄 := bigSep Finset.univ fun i : Fin 15 => dutyTok ER (dCell (fwd c i.succ) (a, i.succ)) 0 0
/-- The positions at `c`'s cells, and at those of array `a` other than the unused first. -/
def positions : sProp 𝕄 := bigSep Finset.univ fun k : KI => atPos ER (dCell c k) 0 ∅ 0
def posA (a : Fin 4) : sProp 𝕄 := bigSep Finset.univ fun i : Fin 15 => atPos ER (dCell c (a, i.succ)) 0 ∅ 0
def credA (a : Fin 4) : sProp 𝕄 := bigSep Finset.univ fun i : Fin 15 => cred (tallyAt (dCell c (a, i.succ)) () N)
/-- The positions at the unused cells. -/
def pos0 : sProp 𝕄 :=
  iprop(atPos ER (dCell c (0, 0)) 0 ∅ 0 ∗ atPos ER (dCell c (1, 0)) 0 ∅ 0 ∗ atPos ER (dCell c (2, 0)) 0 ∅ 0 ∗ atPos ER (dCell c (3, 0)) 0 ∅ 0)
/-- The counters of array `a` other than the first, at zero; all of `c`'s. -/
def semsA (a : Fin 4) : sProp 𝕄 := bigSep Finset.univ fun i : Fin 15 => semVal (dCell c (a, i.succ)) 0
def sems : sProp 𝕄 := bigSep Finset.univ fun k : KI => semVal (dCell c k) 0
/-- What the copies of array `a` bring. -/
def paysA (a : Fin 4) : sProp 𝕄 := bigSep Finset.univ fun i : Fin 15 => dmaPay m c a i.succ

def bodyIn : sProp 𝕄 :=
  iprop(known m K ∗ owesAny c (O₀ c) ∗ (toksB c ∗ (toksS c 0 ∗ toksR c 1) ∗ (toksS c 2 ∗ toksR c 3))
    ∗ (atPos ER (barCell c) 0 ∅ 0 ∗ positions c) ∗ (cred (tallyAt (barCell c) () 15) ∗ credA c 1 ∗ credA c 3)
    ∗ inputs m c ∗ heldAny c cc0_scratch0 ∗ heldAny c cc0_scratch1 ∗ heldAny c cc0_stg4_0)
def bodyOut : sProp 𝕄 :=
  iprop(owesAny c 0 ∗ inputs m c ∗ heldAny c cc0_scratch0 ∗ heldAny c cc0_scratch1
    ∗ (((c : Thread nD τ).loc cc0_stg4_0) ↦{fullShare} (out m)) ∗ semVal (barCell c) 0 ∗ sems c)

omit [FloatOps F] in
theorem sep_four (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]; rfl
omit [FloatOps F] in
/-- A family over all DMA cells is the unused ones and the four arrays. -/
theorem sep_cells (Φ : KI → sProp 𝕄) : bigSep Finset.univ Φ
    = iprop((Φ (0, 0) ∗ bigSep Finset.univ fun i : Fin 15 => Φ (0, i.succ)) ∗ (Φ (1, 0) ∗ bigSep Finset.univ fun i : Fin 15 => Φ (1, i.succ))
      ∗ (Φ (2, 0) ∗ bigSep Finset.univ fun i : Fin 15 => Φ (2, i.succ)) ∗ (Φ (3, 0) ∗ bigSep Finset.univ fun i : Fin 15 => Φ (3, i.succ))) := by
  rw [bigSep_univ_prod, sep_four, sep_offsets, sep_offsets, sep_offsets, sep_offsets]

/-! ## Regrouping between the phases -/

/-- The other devices' blocks of their results that `c` is to fill. -/
def there : sProp 𝕄 := bigSep Finset.univ fun i : Fin 15 => iprop(∃ X, owns (fwd c i.succ : Thread nD τ) (oRow c) fullShare X)

/-- What the second exchange needs, what comes after it, what the first needs. -/
def kitEnd : sProp 𝕄 := iprop(posA c 0 ∗ posA c 2 ∗ pos0 c ∗ (∃ X, owns (c : Thread nD τ) (pSlot 0) fullShare X))
def kit2 : sProp 𝕄 := iprop((toksS c 2 ∗ toksR c 3) ∗ (posA c 3 ∗ credA c 3) ∗ kitEnd c)
def kit1 : sProp 𝕄 := iprop((toksS c 0 ∗ toksR c 1) ∗ (posA c 1 ∗ credA c 1) ∗ (∃ X, owns (c : Thread nD τ) (oRow c) fullShare X) ∗ kit2 c)

theorem to_signals (W : sProp 𝕄) : iprop(bodyIn m K c ∗ W)
    ⊢ iprop(known m K ∗ sigSt c 0 ∗ (cred (tallyAt (barCell c) () 15) ∗ atPos ER (barCell c) 0 ∅ 0)
        ∗ (inputs m c ∗ heldAny c cc0_scratch0) ∗ kit1 c ∗ W) := by
  unfold bodyIn sigSt kit1 kit2 kitEnd positions pos0 posA toksB
  rw [sep_cells]
  simp only [todo_zero, bigSep_sep']
  iintro ⟨⟨#HP, Ho, ⟨HtB, Ht1, Ht2⟩, ⟨HaB, ⟨Ha00, Ha0⟩, ⟨Ha10, Ha1⟩, ⟨Ha20, Ha2⟩, ⟨Ha30, Ha3⟩⟩, ⟨HcB, Hc1, Hc3⟩, Hin, Hacc, Hland, Hout⟩, HW⟩
  ihave Hland := (show heldAny c cc0_scratch1 ⊢ iprop((∃ X, owns (c : Thread nD τ) (pSlot 0) fullShare X)
      ∗ bigSep Finset.univ fun i : Fin 15 => iprop(∃ X, owns (c : Thread nD τ) (pSlot i.rev.succ) fullShare X)) from by
    unfold heldAny
    rw [← sep_rev fun i : Fin 15 => iprop(∃ X, owns (c : Thread nD τ) (pSlot i.succ) fullShare X),
      ← sep_offsets fun o => iprop(∃ X, owns (c : Thread nD τ) (pSlot o) fullShare X)]
    iintro ⟨%f, H⟩; iapply (slots_split c f); iexact H) $$ Hland
  icases Hland with ⟨Hs0, Hs⟩
  ihave Hout := (show heldAny c cc0_stg4_0 ⊢ iprop((∃ X, owns (c : Thread nD τ) (oRow c) fullShare X)
      ∗ bigSep Finset.univ fun i : Fin 15 => iprop(∃ X, owns (c : Thread nD τ) (oRow (fwd c i.succ)) fullShare X)) from by
    unfold heldAny
    rw [← sep_around c fun j => iprop(∃ X, owns (c : Thread nD τ) (oRow j) fullShare X)]
    iintro ⟨%f, H⟩; iapply (out_split c f); iexact H) $$ Hout
  icases Hout with ⟨Hoc, Ho'⟩
  isplitr; · iexact HP
  isplitl [Ho HtB Hs Ho']
  · isplitl [Ho]; · iexact Ho
    isplitl [HtB]; · iexact HtB
    isplitl [Hs] <;> iassumption
  isplitl [HcB HaB]
  · isplitl [HcB] <;> iassumption
  isplitl [Hin Hacc]
  · isplitl [Hin] <;> iassumption
  isplitr [HW]
  · isplitl [Ht1]; · iexact Ht1
    isplitl [Ha1 Hc1]
    · isplitl [Ha1] <;> iassumption
    isplitl [Hoc]; · iexact Hoc
    isplitl [Ht2]; · iexact Ht2
    isplitl [Ha3 Hc3]
    · isplitl [Ha3] <;> iassumption
    isplitl [Ha0]; · iexact Ha0
    isplitl [Ha2]; · iexact Ha2
    isplitr [Hs0]
    · isplitl [Ha00]; · iexact Ha00
      isplitl [Ha10]; · iexact Ha10
      isplitl [Ha20]; · iexact Ha20
      iexact Ha30
    iexact Hs0
  iexact HW

theorem to_barrier {A B C D : sProp 𝕄} : iprop(A ∗ B ∗ C ∗ D) ⊢ iprop(A ∗ (B ∗ C) ∗ D) := by
  iintro ⟨HA, HB, HC, HD⟩
  isplitl [HA]; · iexact HA
  isplitl [HB HC]
  · isplitl [HB] <;> iassumption
  iexact HD

/-- What `c` holds beside its copies of the first exchange. -/
def beside1 (W : sProp 𝕄) : sProp 𝕄 :=
  iprop(inputs m c ∗ semVal (barCell c) 0 ∗ there c ∗ (posA c 1 ∗ credA c 1) ∗ (∃ X, owns (c : Thread nD τ) (oRow c) fullShare X) ∗ kit2 c ∗ W)

theorem to_send1 (W : sProp 𝕄) :
    iprop(known m K ∗ (owesAny c (owing 0 (tD 3 c) + owing 0 (tD 1 c)) ∗ semVal (barCell c) 0 ∗ bigSep Finset.univ (fun i => barPay c i))
        ∗ (inputs m c ∗ (((c : Thread nD τ).loc cc0_scratch0) ↦{fullShare} (accAt m c))) ∗ kit1 c ∗ W)
    ⊢ iprop(known m K ∗ sendSt1 m c 0 ∗ owns (c : Thread nD τ) (aRow c) fullShare (accRow m c c) ∗ beside1 m c W) := by
  unfold sendSt1 sent beside1 kit1 there barPay toksS toksR
  rw [done_zero]
  simp only [todo_zero, bigSep_sep']
  iintro ⟨#HP, ⟨Ho, Hb, Hslots, Hthere⟩, ⟨Hin, Hacc⟩, ⟨⟨Ht0, Ht1⟩, Hw1, Hoc, Hk2⟩, HW⟩
  ihave Hacc := ((acc_split m c).trans (BIBase.Entails.of_eq (sep_around c fun j => owns (c : Thread nD τ) (aRow j) fullShare (accRow m c j)))) $$ Hacc
  icases Hacc with ⟨Hac, Ha⟩
  isplitr; · iexact HP
  isplitl [Ho Hslots Ht0 Ht1 Ha]
  · isplitl [Ho]; · iexact Ho
    isplitl [Hslots Ht0 Ht1 Ha]
    · isplitl [Ha]; · iexact Ha
      isplitl [Hslots]; · iexact Hslots
      isplitl [Ht0] <;> iassumption
    iempintro
  isplitl [Hac]; · iexact Hac
  isplitl [Hin]; · iexact Hin
  isplitl [Hb]; · iexact Hb
  isplitl [Hthere]; · iexact Hthere
  isplitl [Hw1]; · iexact Hw1
  isplitl [Hoc]; · iexact Hoc
  isplitl [Hk2] <;> iassumption

theorem to_row (W : sProp 𝕄) :
    iprop(known m K ∗ sendSt1 m c 15 ∗ owns (c : Thread nD τ) (aRow c) fullShare (accRow m c c) ∗ beside1 m c W)
    ⊢ iprop(owns (c : Thread nD τ) (aRow c) fullShare (accRow m c c) ∗ known m K ∗ owesAny c (owing 0 (tD 3 c)) ∗ sent c 0 15 ∗ beside1 m c W) := by
  unfold sendSt1
  rw [todo_end, owing_end, add_zero]
  iintro ⟨#HP, ⟨Ho, -, Hs⟩, Hrow, Hb⟩
  isplitl [Hrow]; · iexact Hrow
  isplitr; · iexact HP
  isplitl [Ho]; · iexact Ho
  isplitl [Hs] <;> iassumption

/-- What `c` holds beside its waits of the first exchange. -/
def beside2 (W : sProp 𝕄) : sProp 𝕄 :=
  iprop(sent c 0 15 ∗ owns (c : Thread nD τ) (aRow c) fullShare (accRow m c c) ∗ inputs m c ∗ semVal (barCell c) 0 ∗ there c ∗ kit2 c ∗ W)

theorem to_wait1 (W : sProp 𝕄) :
    iprop(owns (c : Thread nD τ) (aRow c) fullShare (accRow m c c) ∗ known m K ∗ owesAny c (owing 0 (tD 3 c)) ∗ sent c 0 15 ∗ beside1 m c W)
    ⊢ iprop(known m K ∗ waitSt m c 1 (owing 0 (tD 3 c)) 0 ∗ (∃ X, owns (c : Thread nD τ) (oRow c) fullShare X) ∗ beside2 m c W) := by
  unfold waitSt beside1 beside2 posA credA
  rw [done_zero]
  simp only [todo_zero, bigSep_sep']
  iintro ⟨Hrow, #HP, Ho, Hs, Hin, Hb, Hth, ⟨Ha1, Hc1⟩, Hoc, Hk2, HW⟩
  isplitr; · iexact HP
  isplitl [Ho Ha1 Hc1]
  · isplitl [Ho]; · iexact Ho
    isplitl [Ha1 Hc1]
    · isplitl [Ha1] <;> iassumption
    iempintro
  isplitl [Hoc]; · iexact Hoc
  isplitl [Hs]; · iexact Hs
  isplitl [Hrow]; · iexact Hrow
  isplitl [Hin]; · iexact Hin
  isplitl [Hb]; · iexact Hb
  isplitl [Hth]; · iexact Hth
  isplitl [Hk2] <;> iassumption

theorem to_store (W : sProp 𝕄) :
    iprop(known m K ∗ waitSt m c 1 (owing 0 (tD 3 c)) 15 ∗ (∃ X, owns (c : Thread nD τ) (oRow c) fullShare X) ∗ beside2 m c W)
    ⊢ iprop((∃ X, owns (c : Thread nD τ) (oRow c) fullShare X) ∗ known m K ∗ owesAny c (owing 0 (tD 3 c)) ∗ (semsA c 1 ∗ paysA m c 1) ∗ beside2 m c W) := by
  unfold waitSt semsA paysA
  rw [todo_end, done_all, bigSep_sep']
  iintro ⟨#HP, ⟨Ho, -, Hd⟩, Hoc, Hb⟩
  isplitl [Hoc]; · iexact Hoc
  isplitr; · iexact HP
  isplitl [Ho]; · iexact Ho
  isplitl [Hd] <;> iassumption

/-- What `c` holds beside its second exchange. -/
def beside3 (W : sProp 𝕄) : sProp 𝕄 :=
  iprop((semsA c 1 ∗ paysA m c 1) ∗ owns (c : Thread nD τ) (aRow c) fullShare (accRow m c c)
    ∗ owns (c : Thread nD τ) (oRow c) (Transfers.shareDrop fullShare 15) (red m c) ∗ inputs m c ∗ semVal (barCell c) 0 ∗ W)

theorem to_send2 (W : sProp 𝕄) :
    iprop(owns (c : Thread nD τ) (oRow c) fullShare (red m c) ∗ known m K ∗ owesAny c (owing 0 (tD 3 c)) ∗ (semsA c 1 ∗ paysA m c 1) ∗ beside2 m c W)
    ⊢ iprop(known m K ∗ sendSt2 m c 0 ∗ (sent c 0 15 ∗ (posA c 3 ∗ credA c 3) ∗ kitEnd c) ∗ beside3 m c W) := by
  unfold sendSt2 beside2 beside3 kit2 there toksS toksR
  rw [show sent (F := F) c 2 0 = (BI.emp : sProp 𝕄) from done_zero _, out_shares]
  simp only [todo_zero, bigSep_sep']
  iintro ⟨⟨Hdrop, Hshr⟩, #HP, Ho, Hd1, Hs0, Hrow, Hin, Hb, Hth, ⟨⟨Ht2, Ht3⟩, Hw3, Hk⟩, HW⟩
  isplitr; · iexact HP
  isplitl [Ho Hshr Hth Ht2 Ht3]
  · isplitl [Ho]; · iexact Ho
    isplitl [Hshr Hth Ht2 Ht3]
    · isplitl [Hshr]; · iexact Hshr
      isplitl [Hth]; · iexact Hth
      isplitl [Ht2] <;> iassumption
    iempintro
  isplitl [Hs0 Hw3 Hk]
  · isplitl [Hs0]; · iexact Hs0
    isplitl [Hw3] <;> iassumption
  isplitl [Hd1]; · iexact Hd1
  isplitl [Hrow]; · iexact Hrow
  isplitl [Hdrop]; · iexact Hdrop
  isplitl [Hin]; · iexact Hin
  isplitl [Hb] <;> iassumption

theorem to_wait3 (W : sProp 𝕄) :
    iprop(known m K ∗ sendSt2 m c 15 ∗ (sent c 0 15 ∗ (posA c 3 ∗ credA c 3) ∗ kitEnd c) ∗ beside3 m c W)
    ⊢ iprop(known m K ∗ waitSt m c 3 0 0 ∗ (sent c 0 15 ∗ sent c 2 15 ∗ kitEnd c) ∗ beside3 m c W) := by
  unfold sendSt2 waitSt posA credA
  rw [todo_end, owing_end, done_zero]
  simp only [todo_zero, bigSep_sep']
  iintro ⟨#HP, ⟨Ho, -, Hs2⟩, ⟨Hs0, ⟨Ha3, Hc3⟩, Hk⟩, Hb⟩
  isplitr; · iexact HP
  isplitl [Ho Ha3 Hc3]
  · isplitl [Ho]; · iexact Ho
    isplitl [Ha3 Hc3]
    · isplitl [Ha3] <;> iassumption
    iempintro
  isplitl [Hs0 Hs2 Hk]
  · isplitl [Hs0]; · iexact Hs0
    isplitl [Hs2] <;> iassumption
  iexact Hb

theorem to_wait0 (W : sProp 𝕄) :
    iprop(known m K ∗ waitSt m c 3 0 15 ∗ (sent c 0 15 ∗ sent c 2 15 ∗ kitEnd c) ∗ beside3 m c W)
    ⊢ iprop(known m K ∗ waitSt m c 0 0 0 ∗ (sent c 2 15 ∗ posA c 2 ∗ pos0 c ∗ (∃ X, owns (c : Thread nD τ) (pSlot 0) fullShare X)
        ∗ (semsA c 3 ∗ paysA m c 3)) ∗ beside3 m c W) := by
  unfold waitSt kitEnd semsA paysA posA
  rw [todo_end, done_zero, done_all]
  rw [show sent (F := F) c 0 15 = bigSep Finset.univ fun i : Fin 15 => cred (tallyAt (dCell c (0, i.succ)) () N) from done_all _]
  simp only [todo_zero, bigSep_sep']
  iintro ⟨#HP, ⟨Ho, -, Hd3⟩, ⟨Hs0, Hs2, Ha0, Ha2, Hp0, Hslot⟩, Hb⟩
  isplitr; · iexact HP
  isplitl [Ho Ha0 Hs0]
  · isplitl [Ho]; · iexact Ho
    isplitl [Ha0 Hs0]
    · isplitl [Ha0] <;> iassumption
    iempintro
  isplitr [Hb]
  · isplitl [Hs2]; · iexact Hs2
    isplitl [Ha2]; · iexact Ha2
    isplitl [Hp0]; · iexact Hp0
    isplitl [Hslot] <;> iassumption
  iexact Hb

theorem to_wait2 (W : sProp 𝕄) :
    iprop(known m K ∗ waitSt m c 0 0 15 ∗ (sent c 2 15 ∗ posA c 2 ∗ pos0 c ∗ (∃ X, owns (c : Thread nD τ) (pSlot 0) fullShare X)
        ∗ (semsA c 3 ∗ paysA m c 3)) ∗ beside3 m c W)
    ⊢ iprop(known m K ∗ waitSt m c 2 0 0 ∗ (pos0 c ∗ (∃ X, owns (c : Thread nD τ) (pSlot 0) fullShare X)
        ∗ (semsA c 0 ∗ paysA m c 0) ∗ (semsA c 3 ∗ paysA m c 3)) ∗ beside3 m c W) := by
  unfold waitSt semsA paysA posA
  rw [todo_end, done_zero, done_all]
  rw [show sent (F := F) c 2 15 = bigSep Finset.univ fun i : Fin 15 => cred (tallyAt (dCell c (2, i.succ)) () N) from done_all _]
  simp only [todo_zero, bigSep_sep']
  iintro ⟨#HP, ⟨Ho, -, Hd0⟩, ⟨Hs2, Ha2, Hp0, Hslot, Hd3⟩, Hb⟩
  isplitr; · iexact HP
  isplitl [Ho Ha2 Hs2]
  · isplitl [Ho]; · iexact Ho
    isplitl [Ha2 Hs2]
    · isplitl [Ha2] <;> iassumption
    iempintro
  isplitr [Hb]
  · isplitl [Hp0]; · iexact Hp0
    isplitl [Hslot]; · iexact Hslot
    isplitl [Hd0] <;> iassumption
  iexact Hb

/-- The unused cell of array `a` closes: nothing was ever due at it. -/
theorem close0 (a : Fin 4) : iprop(known m K ∗ atPos ER (dCell c (a, 0)) 0 ∅ 0) ⊢ |={Set.univ}=> semVal (dCell c (a, 0)) 0 := by
  iintro ⟨#HP, Hat⟩
  iapply (Rounds.cell_close ER (rd m) (Set.mem_univ (K (c, some (a, 0)))) (fun h => h) (R := 0) (fun r _ => duties_d0 m c a r)) $$ [Hat]
  isplitr; · iapply (known_inv m K (c, some (a, 0))); iexact HP
  iexact Hat

theorem to_end (Q : PUnit → sProp 𝕄) :
    iprop(known m K ∗ waitSt m c 2 0 15 ∗ (pos0 c ∗ (∃ X, owns (c : Thread nD τ) (pSlot 0) fullShare X)
        ∗ (semsA c 0 ∗ paysA m c 0) ∗ (semsA c 3 ∗ paysA m c 3)) ∗ beside3 m c iprop(bodyOut m c -∗ Q ⟨⟩))
    ⊢ WP c (.ret ⟨⟩) Q := by
  unfold WP
  rw [wp_ret]
  unfold waitSt pos0 beside3 semsA
  rw [todo_end, done_all, bigSep_sep']
  iintro ⟨#HP, ⟨Ho, -, Hz2, Hp2⟩, ⟨⟨Ha0, Ha1, Ha2, Ha3⟩, Hslot, ⟨Hz0, Hp0⟩, Hz3, Hp3⟩, ⟨Hz1, Hp1⟩, Hrow, Hdrop, Hin, Hb, HQ⟩
  imod (close0 m K c 0) $$ [Ha0] with Ha0
  · isplitr; · iexact HP
    iexact Ha0
  imod (close0 m K c 1) $$ [Ha1] with Ha1
  · isplitr; · iexact HP
    iexact Ha1
  imod (close0 m K c 2) $$ [Ha2] with Ha2
  · isplitr; · iexact HP
    iexact Ha2
  imod (close0 m K c 3) $$ [Ha3] with Ha3
  · isplitr; · iexact HP
    iexact Ha3
  imodintro
  iapply HQ
  unfold bodyOut sems
  rw [sep_cells]
  isplitl [Ho]; · iexact Ho
  isplitl [Hin]; · iexact Hin
  isplitl [Hrow Hp0]
  · unfold heldAny; iexists (accAt m c)
    iapply (acc_join m c)
    rw [sep_around c]
    isplitl [Hrow]; · iexact Hrow
    iapply (show paysA m c 0 ⊢ bigSep Finset.univ fun i : Fin 15 => owns (c : Thread nD τ) (aRow (fwd c i.succ)) fullShare (accRow m c (fwd c i.succ)) from
      BIBase.Entails.of_eq rfl)
    iexact Hp0
  isplitl [Hslot Hp1]
  · unfold heldAny
    iapply (slots_join (F := F) c)
    rw [sep_offsets]
    isplitl [Hslot]; · iexact Hslot
    iapply (show paysA m c 1 ⊢ bigSep Finset.univ fun i : Fin 15 => iprop(∃ X, owns (c : Thread nD τ) (pSlot i.succ) fullShare X) from
      bigSep_mono fun i _ => by
        show owns (c : Thread nD τ) (pSlot i.succ) fullShare (accRow m (bwd c i.succ) c) ⊢ (iprop(∃ X, owns (c : Thread nD τ) (pSlot i.succ) fullShare X) : sProp 𝕄)
        iintro H; iexists _; iexact H)
    iexact Hp1
  isplitl [Hdrop Hp2 Hp3]
  · iapply (out_join m c)
    rw [sep_aroundBack c, out_shares]
    isplitl [Hdrop Hp2]
    · isplitl [Hdrop]; · iexact Hdrop
      iexact Hp2
    iapply (show paysA m c 3 ⊢ bigSep Finset.univ fun i : Fin 15 => owns (c : Thread nD τ) (oRow (bwd c i.succ)) fullShare (red m (bwd c i.succ)) from
      BIBase.Entails.of_eq rfl)
    iexact Hp3
  isplitl [Hb]; · iexact Hb
  isplitl [Ha0 Hz0]
  · isplitl [Ha0] <;> iassumption
  isplitl [Ha1 Hz1]
  · isplitl [Ha1] <;> iassumption
  isplitl [Ha2 Hz2]
  · isplitl [Ha2] <;> iassumption
  isplitl [Ha3] <;> iassumption

/-! ## The loads and the store of the local part -/

/-- A whole-buffer load, with the buffer borrowed from the state. -/
theorem step_load {P : sProp 𝕄} {α : Type} {Q : α → sProp 𝕄} {s : Shape} {e : EltTy} {M : Memref sig .tc .vmem s e} {r : LoadRect s}
    {hl : M.view.LoadsAt r} {k : (r.shape.Idx → Elt F e) → Prog (TpuEff nD τ sig (Elt F) Λ₀ .tc) α}
    {f : Buf (Elt F) (M.view.loc (c : Thread nD τ))}
    (hP : P ⊢ iprop((M.view.loc (c : Thread nD τ) ↦{fullShare} f) ∗ ((M.view.loc (c : Thread nD τ) ↦{fullShare} f) -∗ P)))
    (h : P ⊢ WP c (k (M.view.readAt (Elt F) r f)) Q) :
    P ⊢ WP c (.op (.load M r hl) k) Q := by
  refine hP.trans ?_
  iintro ⟨Hx, HP⟩
  iapply (wp_load 𝒱₀ (c : Thread nD τ) none Set.univ (m := M) (Finset.subset_univ _)) $$ Hx
  iintro Hx
  iapply h
  iapply HP
  iexact Hx

section Borrow
variable {m c}

theorem borrow_x {A B C R : sProp 𝕄} : iprop(A ∗ B ∗ (inputs m c ∗ C) ∗ R) ⊢ iprop((((c : Thread nD τ).loc cc0_stg0_0) ↦{fullShare} (xstg m c))
    ∗ ((((c : Thread nD τ).loc cc0_stg0_0) ↦{fullShare} (xstg m c)) -∗ (A ∗ B ∗ (inputs m c ∗ C) ∗ R))) := by
  unfold inputs
  iintro ⟨HA, HB, ⟨⟨Hx, Hw, Hi, He⟩, HC⟩, HR⟩
  isplitl [Hx]; · iexact Hx
  iintro Hx
  isplitl [HA]; · iexact HA
  isplitl [HB]; · iexact HB
  isplitr [HR]
  · isplitr [HC]
    · isplitl [Hx]; · iexact Hx
      isplitl [Hw]; · iexact Hw
      isplitl [Hi] <;> iassumption
    iexact HC
  iexact HR
theorem borrow_w {A B C R : sProp 𝕄} : iprop(A ∗ B ∗ (inputs m c ∗ C) ∗ R) ⊢ iprop((((c : Thread nD τ).loc cc0_stg1_0) ↦{fullShare} (wstg m c))
    ∗ ((((c : Thread nD τ).loc cc0_stg1_0) ↦{fullShare} (wstg m c)) -∗ (A ∗ B ∗ (inputs m c ∗ C) ∗ R))) := by
  unfold inputs
  iintro ⟨HA, HB, ⟨⟨Hx, Hw, Hi, He⟩, HC⟩, HR⟩
  isplitl [Hw]; · iexact Hw
  iintro Hw
  isplitl [HA]; · iexact HA
  isplitl [HB]; · iexact HB
  isplitr [HR]
  · isplitr [HC]
    · isplitl [Hx]; · iexact Hx
      isplitl [Hw]; · iexact Hw
      isplitl [Hi] <;> iassumption
    iexact HC
  iexact HR
theorem borrow_i {A B C R : sProp 𝕄} : iprop(A ∗ B ∗ (inputs m c ∗ C) ∗ R) ⊢ iprop((((c : Thread nD τ).loc cc0_stg2_0) ↦{fullShare} (istg m c))
    ∗ ((((c : Thread nD τ).loc cc0_stg2_0) ↦{fullShare} (istg m c)) -∗ (A ∗ B ∗ (inputs m c ∗ C) ∗ R))) := by
  unfold inputs
  iintro ⟨HA, HB, ⟨⟨Hx, Hw, Hi, He⟩, HC⟩, HR⟩
  isplitl [Hi]; · iexact Hi
  iintro Hi
  isplitl [HA]; · iexact HA
  isplitl [HB]; · iexact HB
  isplitr [HR]
  · isplitr [HC]
    · isplitl [Hx]; · iexact Hx
      isplitl [Hw]; · iexact Hw
      isplitl [Hi] <;> iassumption
    iexact HC
  iexact HR
theorem borrow_e {A B C R : sProp 𝕄} : iprop(A ∗ B ∗ (inputs m c ∗ C) ∗ R) ⊢ iprop((((c : Thread nD τ).loc cc0_stg3_0) ↦{fullShare} (estg m c))
    ∗ ((((c : Thread nD τ).loc cc0_stg3_0) ↦{fullShare} (estg m c)) -∗ (A ∗ B ∗ (inputs m c ∗ C) ∗ R))) := by
  unfold inputs
  iintro ⟨HA, HB, ⟨⟨Hx, Hw, Hi, He⟩, HC⟩, HR⟩
  isplitl [He]; · iexact He
  iintro He
  isplitl [HA]; · iexact HA
  isplitl [HB]; · iexact HB
  isplitr [HR]
  · isplitr [HC]
    · isplitl [Hx]; · iexact Hx
      isplitl [Hw]; · iexact Hw
      isplitl [Hi] <;> iassumption
    iexact HC
  iexact HR

end Borrow

/-- The store of the local part, over a load whose value nothing uses. -/
theorem step_store_acc {α : Type} {Q : α → sProp 𝕄} {A B R : sProp 𝕄} {w : Vec F S1024x512 .f32} (hw : w = accAt m c)
    {hb hb' : ∀ a, (![0, 0] : Fin 2 → Nat) a + S1024x512.size a ≤ S1024x512.size a}
    {hl : aM.view.LoadsAt (Rect.unit (s := S1024x512) ![0, 0] S1024x512.size hb).toLoadRect}
    {hx : (aM.access (Rect.unit (s := S1024x512) ![0, 0] S1024x512.size hb')).Stores Finset.univ}
    {hm : (Finset.univ : Finset S1024x512.Idx) = Finset.univ ∨ ∀ a, (Rect.unit (s := S1024x512) ![0, 0] S1024x512.size hb').stride a = 1}
    {k : PUnit → Prog (TpuEff nD τ sig (Elt F) Λ₀ .tc) α}
    (h : iprop(A ∗ B ∗ (inputs m c ∗ (((c : Thread nD τ).loc cc0_scratch0) ↦{fullShare} (accAt m c))) ∗ R) ⊢ WP c (k ⟨⟩) Q) :
    iprop(A ∗ B ∗ (inputs m c ∗ heldAny c cc0_scratch0) ∗ R)
      ⊢ WP c (.op (.load aM (Rect.unit (s := S1024x512) ![0, 0] S1024x512.size hb).toLoadRect hl) fun _ =>
          .op (.store aM (Rect.unit (s := S1024x512) ![0, 0] S1024x512.size hb') w Finset.univ hx hm) k) Q := by
  subst hw
  unfold heldAny
  iintro ⟨HA, HB, ⟨Hin, ⟨%f, Hacc⟩⟩, HR⟩
  iapply (wp_load 𝒱₀ (c : Thread nD τ) none Set.univ (m := aM) (Finset.subset_univ _)) $$ Hacc
  iintro Hacc
  iapply (wp_store 𝒱₀ (c : Thread nD τ) none Set.univ (m := aM) (r := (Rect.unit (s := S1024x512) ![0, 0] S1024x512.size hb')) (Mk := Finset.univ) (Finset.subset_univ _)) $$ Hacc
  iintro Hacc
  iapply h
  isplitl [HA]; · iexact HA
  isplitl [HB]; · iexact HB
  isplitr [HR]
  · isplitl [Hin]; · iexact Hin
    iapply (BIBase.Entails.of_eq (congrArg (fun g => iprop(((c : Thread nD τ).loc cc0_scratch0) ↦{fullShare} g))
      (Memref.write_access_unit_zero_univ (Elt F) cc0_scratch0 (by decide) hb' f (accAt m c))))
    iexact Hacc
  iexact HR

/-! ## The whole body -/

set_option maxHeartbeats 8000000 in
set_option maxRecDepth 20000 in
set_option sl_open_parts.maxParts 60 in
/-- The body runs, from `bodyIn` to `bodyOut`. -/
theorem body_runs (Q : PUnit → sProp 𝕄) :
    iprop(bodyIn m K c ∗ (bodyOut m c -∗ Q ⟨⟩))
      ⊢ WP c (cc0_body (F := F) xM (Memref.isWhole_whole _) wM (Memref.isWhole_whole _) iM (Memref.isWhole_whole _) eM (Memref.isWhole_whole _)
          oM (Memref.isWhole_whole _) aM (Memref.isWhole_whole _) pM (Memref.isWhole_whole _) cc0_scratch2 cc0_scratch3 cc0_scratch4 cc0_scratch5) Q := by
  unfold WP; simp only [cc0_body_eq_skeleton]; unfold cc0_body_skel
  sl_open_parts
  simp only [semSignalWord, semWaitWord, Prog.lift, Prog.bind_op, Prog.bind_ret, Prog.pure_eq_ret, wp_deviceId]
  refine (to_signals m K c _).trans ?_
  iterate 15 refine step_signal m K c ⟨_, by decide⟩ _ (by clear * -; revert c; decide +kernel) _ rfl _ rfl ?_
  refine to_barrier.trans ?_
  refine step_barrier m K c _ rfl _ rfl ?_
  refine step_load c borrow_x ?_
  refine step_load c borrow_w ?_
  refine step_load c borrow_i ?_
  refine step_load c borrow_i ?_
  refine step_load c borrow_e ?_
  refine step_load c borrow_e ?_
  refine step_load c borrow_e ?_
  refine step_load c borrow_e ?_
  refine step_store_acc m c rfl ?_
  refine (to_send1 m K c _).trans ?_
  iterate 15
    refine step_send1 m K c ⟨_, by decide⟩ _ (by clear * -; revert c; decide +kernel)
      (slice_rows (by clear * -; revert c; decide +kernel) _ _) rfl rfl rfl ?_
  refine (to_row m K c _).trans ?_
  refine step_load_row m c (by clear * -; revert c; decide +kernel) ?_
  refine (to_wait1 m K c _).trans ?_
  iterate 15
    refine step_wait m K c 1 _ ⟨_, by decide⟩ (mayWait_d1 c _) rfl (by rfl) ?_
    refine step_load_slot m K c _ ⟨_, by decide⟩ rfl ?_
  refine (to_store m K c _).trans ?_
  refine step_load_out c (by clear * -; revert c; decide +kernel) fun _ => ?_
  refine step_store_row c (by clear * -; revert c; decide +kernel) ?_
  refine (to_send2 m K c _).trans ?_
  iterate 15
    refine step_send2 m K c ⟨_, by decide⟩ _ (by clear * -; revert c; decide +kernel)
      (slice_rows (by clear * -; revert c; decide +kernel) _ _) (slice_rows (by clear * -; revert c; decide +kernel) _ _) rfl rfl ?_
  refine (to_wait3 m K c _).trans ?_
  iterate 15 refine step_wait m K c 3 _ ⟨_, by decide⟩ (mayWait_nothing c _) rfl (by rfl) ?_
  refine (to_wait0 m K c _).trans ?_
  iterate 15 refine step_wait m K c 0 _ ⟨_, by decide⟩ (mayWait_nothing c _) rfl (by rfl) ?_
  refine (to_wait2 m K c _).trans ?_
  iterate 15 refine step_wait m K c 2 _ ⟨_, by decide⟩ (mayWait_nothing c _) rfl (by rfl) ?_
  exact to_end m K c Q

end Cert.Moe

end
-- ==== Proof.Moe.Run.lean ====
/-
# The launch

From the body on one device to the run of the whole program on all sixteen: the cells' invariants are made
for all devices under one update, every cell's duty tokens are dealt to the devices that pay them, and what a
device is owed at launch is the sum of what the others owe it. `run_main` says that every execution ends, with
every device's result at `out m`, the arguments unchanged and every semaphore counter at zero.
-/
module

public import proofs.«01_k».proof.Proof.Moe.Body
public import proofs.«01_k».proof.Proof.Gen.KernelIdeal.Points
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

/-- Every cell's invariant, and that each has reached round 0. -/
def cellsKnown (K : Dev nD × Option KI → ℕ) : sProp 𝕄 :=
  iprop((bigSep Finset.univ fun ck : Dev nD × Option KI => cellInv ER (rd m) (K ck) (kcell ck))
    ∗ bigSep Finset.univ fun ck : Dev nD × Option KI => reached ER (kcell ck) 0)
instance cellsKnown_persistent (K : Dev nD × Option KI → ℕ) : BI.Persistent (cellsKnown m K) := by unfold cellsKnown; infer_instance

/-- The tokens device `c` pays with, and its positions. -/
def payToks (c : Dev nD) : sProp 𝕄 := iprop(toksB c ∗ (toksS c 0 ∗ toksR c 1) ∗ (toksS c 2 ∗ toksR c 3))
def atAll (c : Dev nD) : sProp 𝕄 := iprop(atPos ER (barCell c) 0 ∅ 0 ∗ positions c)
def ghost (c : Dev nD) : sProp 𝕄 := iprop(∃ K, cellsKnown m K ∗ payToks c ∗ atAll c)
def start (c : Dev nD) : sProp 𝕄 :=
  iprop(ghost m c ∗ (cred (tallyAt (barCell c) () 15) ∗ credA c 1 ∗ credA c 3) ∗ levAts L lv)
/-- Held beside the staging buffers before the body, and after it. -/
def Φ₀ (c : Dev nD) : sProp 𝕄 := iprop(start m c ∗ heldAny c cc0_scratch0 ∗ heldAny c cc0_scratch1)
def Φ₁ (c : Dev nD) : sProp 𝕄 := iprop(heldAny (F := F) c cc0_scratch0 ∗ heldAny c cc0_scratch1 ∗ semVal (barCell c) 0 ∗ sems c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => istg m c
    | ⟨3, _⟩ => estg m c
    | ⟨4, _⟩ => out m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ c ∗ (dats m ρ 0 c).owesAt () t0_0.succ ∗ stg c cc0_stg0_0 (xstg m c) ∗ stg c cc0_stg1_0 (wstg m c)
    ∗ stg c cc0_stg2_0 (istg m c) ∗ stg c cc0_stg3_0 (estg m c) ∗ stg c cc0_stg4_0 (out m))

theorem pre_in (c : Dev nD) : bodyPre m ρ c ⊢ iprop(∃ K, bodyIn m K c) := by
  unfold bodyPre Φ₀ start ghost bodyIn known cellsKnown payToks atAll inputs owesAny Dat.owesAt Pipeline.owesWithin
  rw [show (dats m ρ 0 c).owed t0_0.castSucc = O₀ c from rfl]
  iintro ⟨⟨⟨⟨%K, ⟨#HI, #HR⟩, Htok, Hat⟩, Hc, #Hlev⟩, Ha, Hl⟩, ⟨%W, %hW, HO⟩,
    ⟨%d0, %g0, %h0, Hx⟩, ⟨%d1, %g1, %h1, Hw⟩, ⟨%d2, %g2, %h2, Hi⟩, ⟨%d3, %g3, %h3, He⟩, ⟨%d4, %g4, %h4, Ho⟩⟩
  have e0 : g0 = xstg m c := by rw [h0]; unfold Dat.before; rw [if_pos (fetch0_0 t0_0)]; rfl
  have e1 : g1 = wstg m c := by rw [h1]; unfold Dat.before; rw [if_pos (fetch0_1 t0_0)]; rfl
  have e2 : g2 = istg m c := by rw [h2]; unfold Dat.before; rw [if_pos (fetch0_2 t0_0)]; rfl
  have e3 : g3 = estg m c := by rw [h3]; unfold Dat.before; rw [if_pos (fetch0_3 t0_0)]; rfl
  subst e0 e1 e2 e3
  iexists K
  isplitr
  · isplitr; · iexact HI
    isplitr; · iexact HR
    iexact Hlev
  isplitl [HO]; · iexists W; iexact HO
  isplitl [Htok]; · iexact Htok
  isplitl [Hat]; · iexact Hat
  isplitl [Hc]; · iexact Hc
  isplitl [Hx Hw Hi He]
  · isplitl [Hx]; · iexact Hx
    isplitl [Hw]; · iexact Hw
    isplitl [Hi] <;> iassumption
  isplitl [Ha]; · iexact Ha
  isplitl [Hl]; · iexact Hl
  unfold heldAny; iexists g4; iexact Ho

theorem post_out (c : Dev nD) : bodyOut m c ⊢ bodyPost m ρ c := by
  unfold bodyOut bodyPost Φ₁ inputs owesAny Dat.owesAt Pipeline.owesWithin
  rw [show (dats m ρ 0 c).owed t0_0.succ = 0 from rfl]
  iintro ⟨⟨%W, HO⟩, ⟨Hx, Hw, Hi, He⟩, Ha, Hl, Ho, Hb, Hs⟩
  isplitl [Ha Hl Hb Hs]
  · isplitl [Ha]; · iexact Ha
    isplitl [Hl]; · iexact Hl
    isplitl [Hb] <;> iassumption
  isplitl [HO]
  · iexists W; isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  iexists _; isplitr; · (ipureintro; rfl)
  iexact Ho

set_option maxRecDepth 20000 in
/-- The library's body obligation on core `c`. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0,
    show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0]
  simp only [owns_whole_eq]
  show bodyPre m ρ c ⊢ WP c (cc0_body (F := F) xM (Memref.isWhole_whole _) wM (Memref.isWhole_whole _) iM (Memref.isWhole_whole _) eM (Memref.isWhole_whole _)
          oM (Memref.isWhole_whole _) aM (Memref.isWhole_whole _) pM (Memref.isWhole_whole _) cc0_scratch2 cc0_scratch3 cc0_scratch4 cc0_scratch5) (fun _ => bodyPost m ρ c)
  refine (pre_in m ρ c).trans ?_
  iintro ⟨%K, H⟩
  iapply (body_runs m K c fun _ => bodyPost m ρ c)
  isplitl [H]; · iexact H
  iintro H
  iapply (post_out m ρ c)
  iexact H

/-! ## The launch: cells and tokens -/

set_option maxRecDepth 20000 in
theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by
  rintro (_ | k) (_ | k') h
  · rfl
  · exact absurd h (by simp only [csem]; exact fun h => by cases h)
  · exact absurd h (by simp only [csem]; exact fun h => by cases h)
  · exact congrArg some (dsem_injective (SemLoc.dma.inj h))
theorem kcell_injective : Function.Injective (kcell : Dev nD × Option KI → GSem nD τ sig) := by
  rintro ⟨c, k⟩ ⟨c', k'⟩ h
  have h1 : c = c' := congrArg (fun g : GSem nD τ sig => g.1.1) h
  subst h1
  exact congrArg (Prod.mk c) (csem_injective (congrArg Prod.snd h : csem k = csem k'))
def allCells : Finset (GSem nD τ sig) := Finset.univ.map ⟨kcell, kcell_injective⟩

/-- A device's own cells' duty tokens: its barrier's fifteen, and one for each of its used DMA cells. -/
abbrev TI : Type := Option (Fin 4) × Fin 15
abbrev tokOf (cj : Dev nD × TI) : GSem nD τ sig × ℕ × Fin 15 := match cj.2.1 with
  | none => (barCell cj.1, 0, cj.2.2)
  | some a => (dCell cj.1 (a, cj.2.2.succ), 0, 0)
theorem tokOf_injective : Function.Injective tokOf := by
  rintro ⟨c, a, i⟩ ⟨c', a', i'⟩ h
  have h1 : c = c' := by
    have := congrArg (fun x : GSem nD τ sig × ℕ × Fin 15 => x.1.1.1) h
    rcases a with _ | a <;> rcases a' with _ | a' <;> exact this
  subst h1
  rcases a with _ | a <;> rcases a' with _ | a'
  · rw [show i = i' from congrArg (fun x : GSem nD τ sig × ℕ × Fin 15 => x.2.2) h]
  · exact absurd (congrArg (fun x : GSem nD τ sig × ℕ × Fin 15 => x.1.2) h) (fun h => by cases h)
  · exact absurd (congrArg (fun x : GSem nD τ sig × ℕ × Fin 15 => x.1.2) h) (fun h => by cases h)
  · have h2 : ((a, i.succ) : KI) = (a', i'.succ) := dsem_injective (SemLoc.dma.inj (congrArg (fun x : GSem nD τ sig × ℕ × Fin 15 => x.1.2) h))
    rw [(Prod.mk.inj h2).1, Fin.succ_injective _ (Prod.mk.inj h2).2]
def allToks : Finset (GSem nD τ sig × ℕ × Fin 15) := Finset.univ.map ⟨tokOf, tokOf_injective⟩

def u₀ : UU :=
  (initOf (Pipeline.cells cfgs cellOf_inj) (Pipeline.launchToks cfgs cellOf_inj), initOf allCells allToks)

/-- The tokens of device `c`'s own cells. -/
def toks (c : Dev nD) : sProp 𝕄 :=
  iprop((bigSep Finset.univ fun i : Fin 15 => dutyTok ER (barCell c) 0 i) ∗ toksS c 0 ∗ toksS c 1 ∗ toksS c 2 ∗ toksS c 3)

/-- What the launch deals device `c`. -/
def G (c : Dev nD) : sProp 𝕄 :=
  iprop((bigSep Finset.univ fun k : Option KI => roundState ER (rd m) (kcell (c, k)) 0)
    ∗ (bigSep Finset.univ fun k : Option KI => iprop(atPos ER (kcell (c, k)) 0 ∅ 0 ∗ reached ER (kcell (c, k)) 0)) ∗ toks c)

omit [FloatOps F] in
/-- A family over an optional index is its value at none and the family of the others. -/
theorem sep_option {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map Function.Embedding.some) := by
    ext j; cases j <;> simp
  rw [h, bigSep_insert (by simp), bigSep_map]; rfl

theorem toks_eq (c : Dev nD) : (bigSep Finset.univ fun j : TI => (dutyTok ER (tokOf (c, j)).1 (tokOf (c, j)).2.1 (tokOf (c, j)).2.2 : sProp 𝕄)) = toks c := by
  rw [bigSep_univ_prod, sep_option, sep_four]; rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option KI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = sems c := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option KI => semVal (kcell (c, k)) 0 : sProp 𝕄) := by
  rw [ownSems0_eq, unscopedSems0_eq, sep_option]
  iintro ⟨HS, HB⟩
  isplitl [HB]; · iexact HB
  iapply (show (sems c : sProp 𝕄) ⊢ bigSep Finset.univ fun i : KI => semVal (kcell (c, some i)) 0 from BIBase.Entails.of_eq rfl)
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option KI => semVal (kcell (c, k)) 0) ∗ bigSep Finset.univ fun k : Option KI => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over devices and offsets, each member moved to the device that many places before. -/
theorem move (T : Dev nD → Fin 15 → sProp 𝕄) :
    (bigSep Finset.univ fun c : Dev nD => bigSep Finset.univ fun i : Fin 15 => T c i)
      = bigSep Finset.univ fun c : Dev nD => bigSep Finset.univ fun i : Fin 15 => T (fwd c i.succ) i := by
  rw [bigSep_univ_comm fun (c : Dev nD) (i : Fin 15) => T c i, bigSep_univ_comm fun (c : Dev nD) (i : Fin 15) => T (fwd c i.succ) i]
  exact bigSep_congr fun i _ => bigSep_univ_equiv (turn i.succ) fun c => T c i

/-- The tokens dealt to those that pay. -/
theorem toks_around : (bigSep Finset.univ fun c : Dev nD => (toks c : sProp 𝕄)) ⊢ bigSep Finset.univ fun c : Dev nD => payToks c := by
  have hB : (bigSep Finset.univ fun c : Dev nD => bigSep Finset.univ fun i : Fin 15 => (dutyTok ER (barCell c) 0 i : sProp 𝕄))
      = bigSep Finset.univ fun c : Dev nD => toksB c := by
    rw [bigSep_congr (s := Finset.univ) fun (c : Dev nD) _ => sep_rev fun i : Fin 15 => (dutyTok ER (barCell c) 0 i : sProp 𝕄), move]; rfl
  have hR (a : Fin 4) : (bigSep Finset.univ fun c : Dev nD => (toksS c a : sProp 𝕄)) = bigSep Finset.univ fun c : Dev nD => toksR c a :=
    move fun c i => dutyTok ER (dCell c (a, i.succ)) 0 0
  unfold toks payToks
  simp only [bigSep_sep']
  rw [hB, hR 1, hR 3]
  iintro ⟨H1, H2, H3, H4, H5⟩
  isplitl [H1]; · iexact H1
  isplitl [H2 H3]
  · isplitl [H2] <;> iassumption
  isplitl [H4] <;> iassumption

theorem ghost_intro (K : Dev nD × Option KI → ℕ) (c : Dev nD) : iprop(cellsKnown m K ∗ (payToks c ∗ atAll c)) ⊢ ghost m c := by
  unfold ghost
  iintro ⟨HK, H⟩
  iexists K
  isplitl [HK] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m) := by
  rw [bigSep_sep', bigSep_sep', ← bigSep_univ_prod (fun ck : Dev nD × Option KI => iprop(∃ κ : ℕ, cellInv ER (rd m) κ (kcell ck))),
    bigSep_congr (s := Finset.univ) (fun (c : Dev nD) _ => bigSep_sep' Finset.univ (fun k : Option KI => (atPos ER (kcell (c, k)) 0 ∅ 0 : sProp 𝕄)) (fun k => reached ER (kcell (c, k)) 0)),
    bigSep_sep', ← bigSep_univ_prod (fun ck : Dev nD × Option KI => (reached ER (kcell ck) 0 : sProp 𝕄))]
  iintro ⟨HI, ⟨Hat, #HR⟩, Htok⟩
  ihave HK := (BI.bigSep_exists_pi Finset.univ (fun (ck : Dev nD × Option KI) (κ : ℕ) => (cellInv ER (rd m) κ (kcell ck) : sProp 𝕄))) $$ HI
  icases HK with ⟨%K, #HI⟩
  ihave Htk := (toks_around (F := F)) $$ Htok
  iapply (bigSep_with_persistent (R := cellsKnown m K) fun c _ => ghost_intro m K c)
  isplitr
  · unfold cellsKnown; isplitl; · iexact HI
    iexact HR
  · rw [bigSep_sep']
    isplitl [Htk]; · iexact Htk
    iapply (show (bigSep Finset.univ fun c : Dev nD => bigSep Finset.univ fun k : Option KI => (atPos ER (kcell (c, k)) 0 ∅ 0 : sProp 𝕄))
        ⊢ bigSep Finset.univ fun c : Dev nD => atAll c from
      BIBase.Entails.of_eq (bigSep_congr fun c _ => sep_option _))
    iexact Hat

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## What a device is owed at launch -/

theorem owing_apply (T : Fin 15 → CellTallies nD τ sig Unit) (g : GSem nD τ sig) : owing 0 T g () = ∑ j, T j g () := by
  unfold owing
  rw [Finset.filter_true_of_mem fun j _ => Nat.zero_le _, Finset.sum_apply, Finsupp.finset_sum_apply]
theorem tB_bar (d c : Dev nD) (j : Fin 15) : tB d j (barCell c) () = if d = bwd c j.succ then 1 else 0 := by
  unfold tB
  rw [tallyAt_apply]
  refine if_congr ⟨fun h => (fwd_eq_iff c d _).mp (congrArg (fun g : GSem nD τ sig => g.1.1) h.1).symm, fun h => ⟨?_, rfl⟩⟩ rfl rfl
  rw [h, fwd_bwd]
theorem tB_d (d c : Dev nD) (j : Fin 15) (k : KI) : tB d j (dCell c k) () = 0 := by
  unfold tB
  rw [tallyAt_apply, if_neg fun h => by cases congrArg (fun g : GSem nD τ sig => g.2) h.1]
theorem tD_bar (a : Fin 4) (d c : Dev nD) (j : Fin 15) : tD a d j (barCell c) () = 0 := by
  unfold tD
  rw [tallyAt_apply, if_neg fun h => by cases congrArg (fun g : GSem nD τ sig => g.2) h.1]
theorem tD_d (a b : Fin 4) (d c : Dev nD) (j i : Fin 15) :
    tD a d j (dCell c (b, i.succ)) () = if b = a ∧ i = j ∧ d = bwd c j.succ then N else 0 := by
  unfold tD
  rw [tallyAt_apply]
  refine if_congr ⟨fun h => ?_, fun h => ⟨?_, rfl⟩⟩ rfl rfl
  · have h2 : ((b, i.succ) : KI) = (a, j.succ) := dsem_injective (SemLoc.dma.inj (congrArg (fun g : GSem nD τ sig => g.2) h.1))
    exact ⟨(Prod.mk.inj h2).1, Fin.succ_injective _ (Prod.mk.inj h2).2, (fwd_eq_iff c d _).mp (congrArg (fun g : GSem nD τ sig => g.1.1) h.1).symm⟩
  · obtain ⟨rfl, rfl, rfl⟩ := h
    rw [fwd_bwd]

theorem O₀_apply (d : Dev nD) (g : GSem nD τ sig) : O₀ d g () = (∑ j, tD 3 d j g ()) + (∑ j, tD 1 d j g ()) + ∑ j, tB d j g () := by
  rw [← owing_apply, ← owing_apply, ← owing_apply]; rfl

theorem owed_bar (c : Dev nD) : ∑ d : Dev nD, O₀ d (barCell c) () = 15 := by
  simp only [O₀_apply, tD_bar, tB_bar, Finset.sum_const_zero, zero_add]
  rw [Finset.sum_comm]
  simp only [Finset.sum_ite_eq', Finset.mem_univ, if_true]
  rfl
theorem sum_d (a b : Fin 4) (c : Dev nD) (i : Fin 15) : ∑ d : Dev nD, ∑ j, tD a d j (dCell c (b, i.succ)) () = if b = a then N else 0 := by
  simp only [tD_d]
  rw [Finset.sum_comm, Fintype.sum_eq_single i (fun j hj => Finset.sum_eq_zero fun d _ => if_neg fun h => hj h.2.1.symm),
    Fintype.sum_eq_single (bwd c i.succ) (fun d hd => if_neg fun h => hd h.2.2)]
  simp only [and_true]
theorem owed_d (a : Fin 4) (ha : a = 1 ∨ a = 3) (c : Dev nD) (i : Fin 15) : ∑ d : Dev nD, O₀ d (dCell c (a, i.succ)) () = N := by
  simp only [O₀_apply, tB_d, Finset.sum_const_zero, add_zero, Finset.sum_add_distrib, sum_d]
  rcases ha with rfl | rfl <;> simp

theorem launch_cell (c : Dev nD) (sm : SemLoc sig) (n : ℕ) (h : ∑ d : Dev nD, O₀ d ((c : Thread nD τ), sm) () = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

/-- The two arrays at whose cells a device is owed from the start. -/
def inSem : Fin 2 × Fin 15 → SemLoc sig := fun k => .dma (dsem (if k.1 = 0 then 1 else 3, k.2.succ))
theorem inSem_injective : Function.Injective inSem := by
  rintro ⟨a, i⟩ ⟨a', i'⟩ h
  have h2 := dsem_injective (SemLoc.dma.inj h)
  have h3 : a = a' := (by decide : ∀ a a' : Fin 2, (if a = 0 then (1 : Fin 4) else 3) = (if a' = 0 then 1 else 3) → a = a') a a' (Prod.mk.inj h2).1
  exact congrArg₂ Prod.mk h3 (Fin.succ_injective _ (Prod.mk.inj h2).2)

theorem creds (c : Dev nD) :
    (Pipeline.launchCred O₀ c : sProp 𝕄) ⊢ iprop(cred (tallyAt (barCell c) () 15) ∗ credA c 1 ∗ credA c 3) := by
  unfold Pipeline.launchCred
  rw [bigSep_univ_at _ (SemLoc.reg barS), launch_cell c _ 15 (owed_bar c)]
  refine sep_mono_right ?_
  refine BIBase.Entails.trans (bigSep_subset (t := Finset.univ.map ⟨inSem, inSem_injective⟩) fun s hs => ?_) ?_
  · obtain ⟨k, -, rfl⟩ := Finset.mem_map.mp hs
    refine Finset.mem_erase.mpr ⟨?_, Finset.mem_univ _⟩
    show SemLoc.dma _ ≠ SemLoc.reg barS
    exact fun h => by cases h
  · rw [bigSep_map, bigSep_univ_prod, show (Finset.univ : Finset (Fin 2)) = {0, 1} by decide, bigSep_insert (by decide), bigSep_singleton]
    refine BIBase.Entails.of_eq (congrArg₂ (fun A B : sProp 𝕄 => iprop(A ∗ B)) ?_ ?_)
    · exact bigSep_congr fun i _ => congrArg cred (launch_cell c _ N (owed_d 1 (Or.inl rfl) c i))
    · exact bigSep_congr fun i _ => congrArg cred (launch_cell c _ N (owed_d 3 (Or.inr rfl) c i))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ heldAny
  iintro ⟨Hs, -, Ha, Hl⟩
  isplitl [Hs]; · iexact Hs
  isplitl [Ha] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ heldAny
  iintro ⟨Ha, Hl, Hb, Hs⟩
  isplitl [Hb]; · iexact Hb
  isplitl [Hs]; · iexact Hs
  isplitl [Ha] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every execution of the program on the sixteen devices ends, for any float values and from any memory, with every
    window's array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array ends as it began. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

/-- The result's array ends at `out m`, on every device. -/
theorem finalA_out (c : Dev nD) : finalA m ρ c (4 : Fin 5) = out m := by
  unfold finalA
  rw [show cfg0.N = (t0_0 : Fin cfg0.N).val + 1 from N_0, Dat.arrAt_succ, if_pos (flush0_4 t0_0)]
  exact Memref.write_access_unit_zero_univ (Elt F) main_v1 (off := fun a => 0 * main_v1.ty.shape.size a) (funext fun _ => Nat.zero_mul _) (by decide) _ (out m)

/-- Every execution ends with the result at `out m` on every device, the arguments unchanged and every counter at zero. -/
theorem runs : θ_run defs (onTc (τ := τ) (main (F := F))) (s₀ m ρ) (fun r => (∀ c : Dev nD,
      r.2.mem ((c.tc : Thread nD τ).loc main_v1) = out m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c (4 : Fin 5)).trans (finalA_out m ρ c), (h.1 c (0 : Fin 5)).trans (finalA_in m ρ c (0 : Fin 5) rfl), (h.1 c (1 : Fin 5)).trans (finalA_in m ρ c (1 : Fin 5) rfl),
      (h.1 c (2 : Fin 5)).trans (finalA_in m ρ c (2 : Fin 5) rfl), (h.1 c (3 : Fin 5)).trans (finalA_in m ρ c (3 : Fin 5) rfl)⟩, h.2⟩) (run_main m ρ)

end Cert.Moe

end
-- ==== Proof.Moe.Frames.lean ====
/-
# The claims that say a program runs

The kernel's run (`runs`) read at the bit patterns and at the extended reals, and the reference's own run, which
declares no semaphore.
-/
module

public import proofs.«01_k».proof.Defs
public import proofs.«01_k».proof.Proof.Gen.Kernel.Frame
public import proofs.«01_k».proof.Proof.Gen.ReferenceIdeal.Run
public import proofs.«01_k».proof.Proof.Moe.Run

@[expose] public section

noncomputable section

namespace Cert.Moe

open Idealize.ShloMosaic Idealize.SL.Sem

/-- The shape relations the precondition's program states, at the kernel's arguments, -/
theorem preKernelFacts : Cert.Pre_routed_KernelIdeal.Facts := ⟨by decide, by decide, by decide⟩
/-- and at the reference's. -/
theorem preReferenceFacts : Cert.Pre_routed_ReferenceIdeal.Facts := ⟨by decide, by decide, by decide⟩

/-- The kernel at any float values: it runs, its arguments end unchanged, every counter ends at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (runs m ρ)

/-- The two printed programs have one body table, -/
theorem bodies_eq {F : FTy → Type} [FloatOps F] : Cert.Kernel.defs₀ (F := F) = Cert.KernelIdeal.defs₀ := by
  unfold Cert.Kernel.defs₀ Cert.KernelIdeal.defs₀
  refine congrArg Defs.onTc ?_
  funext l a
  match l, a with
  | 0, (t, s) => rfl

/-- and so one table of labels. -/
theorem tables_eq {F : FTy → Type} [FloatOps F] : Cert.Kernel.defs (F := F) = Cert.KernelIdeal.defs := by
  unfold Cert.Kernel.defs Cert.KernelIdeal.defs
  rw [bodies_eq]; rfl

/-- The kernel as printed runs: its text is the idealized program's, read at the bit patterns. -/
theorem frame_kernel : Cert.quiescent_Kernel := fun m ρ _ => by
  rw [tables_eq]
  exact frame_any (F := Bits) m ρ

/-- The same program at the extended reals, -/
theorem frame_ideal : Cert.quiescent_KernelIdeal := fun m ρ _ => frame_any (F := Ideal) m ρ

/-- and so under the precondition. -/
theorem frame_ideal_pre [Cert.Pre_routed_KernelIdeal.Facts] : Cert.quiescent_KernelIdeal_pre_routed_KernelIdeal :=
  fun m ρ _ => frame_ideal m ρ trivial

/-- The reference: it runs, its arguments end unchanged, and it has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- and so under the precondition. -/
theorem frame_reference_pre [Cert.Pre_routed_ReferenceIdeal.Facts] : Cert.quiescent_ReferenceIdeal_pre_routed_ReferenceIdeal :=
  fun m ρ _ => frame_reference m ρ trivial

end Cert.Moe

end
-- ==== Proof.Moe.Sums.lean ====
module
public import Idealize.ShloMosaic.Lib.Pointwise
public import Idealize.ShloMosaic.PureOps.Ideal
@[expose] public section
/-!
# The layer's formula, and the arithmetic that meets it

Scores, the two routed experts' weights and the weighted sum of their products, written over plain
arrays of extended reals; and the three facts the two programs differ by: a weight may leave a sum,
the experts a token is not routed to add nothing, and two probabilities of one softmax over their
sum are the two-way softmax of their scores.
-/
noncomputable section
namespace Cert.Moe
open Idealize.ShloMosaic

/-- The score of expert `e` for token `t`. -/
def score (X : (⟨2, ![1024, 256]⟩ : Shape).Idx → EReal) (W : (⟨2, ![256, 64]⟩ : Shape).Idx → EReal)
    (t : Fin 1024) (e : Fin 64) : EReal := ∑ k : Fin 256, X (ix2 t k) * W (ix2 k e)

/-- Expert `e`'s product with token `t`, column `h`. -/
def expert (X : (⟨2, ![1024, 256]⟩ : Shape).Idx → EReal) (E : (⟨3, ![64, 256, 512]⟩ : Shape).Idx → EReal)
    (t : Fin 1024) (h : Fin 512) (e : Fin 64) : EReal := ∑ k : Fin 256, X (ix2 t k) * E (ix3 e k h)

/-- The share of score `a` in the two-way softmax of `a` and `b`, shifted by `s`. -/
def share (a b s : EReal) : EReal :=
  Ideal.div (Ideal.exp (a - s)) (Ideal.exp (a - s) + Ideal.exp (b - s))

/-- Expert `e`'s probability in the softmax of the scores `a`, shifted by `s`. -/
def prob (a : Fin 64 → EReal) (s : EReal) (e : Fin 64) : EReal :=
  Ideal.div (Ideal.exp (a e - s)) (∑ e', Ideal.exp (a e' - s))

/-- A nonnegative real weight on every left factor leaves the sum. -/
theorem weight_out {n : ℕ} (x E : Fin n → EReal) (w : ℝ) (hw : 0 ≤ w) :
    ∑ k, x k * (w : EReal) * E k = (w : EReal) * ∑ k, x k * E k := by
  have h : ∀ s : Finset (Fin n), ∑ k ∈ s, x k * (w : EReal) * E k = (w : EReal) * ∑ k ∈ s, x k * E k := by
    intro s
    induction s using Finset.induction_on with
    | empty => simp
    | insert k s hk ih =>
      rw [Finset.sum_insert hk, Finset.sum_insert hk, ih,
        EReal.left_distrib_of_nonneg_of_ne_top (EReal.coe_nonneg.2 hw) (EReal.coe_ne_top w)]
      congr 1
      rw [mul_comm (x k), mul_assoc]
  exact h _

/-- Only the two routed experts add to the sum over all of them. -/
theorem routed_sum (S : Fin 64 → EReal) (p q : ℝ) (hp : 0 ≤ p) (hq : 0 ≤ q) (i j : Fin 64) :
    ∑ e, ((if i = e then p else 0) + (if j = e then q else 0) : ℝ) * S e = (p : EReal) * S i + (q : EReal) * S j := by
  have h : ∀ e, (((if i = e then p else 0) + (if j = e then q else 0) : ℝ) : EReal) * S e
      = (if i = e then (p : EReal) * S e else 0) + (if j = e then (q : EReal) * S e else 0) := by
    intro e
    rw [EReal.coe_add, EReal.right_distrib_of_nonneg (by split <;> simp [hp]) (by split <;> simp [hq])]
    congr 1 <;> split <;> simp
  rw [Finset.sum_congr rfl fun e _ => h e, Finset.sum_add_distrib]
  simp

/-- A one-hot sum keeps its one term. -/
theorem onehot_sum (a : Fin 64 → EReal) (i : Fin 64) :
    ∑ e, a e * (if e = i then 1 else 0) = a i := by
  simp

/-- Division of reals by a positive real. -/
theorem div_real (x y : ℝ) (hy : 0 < y) : Ideal.div (x : EReal) (y : EReal) = ((x / y : ℝ) : EReal) := by
  rw [Ideal.div_coe hy.ne', ← EReal.coe_mul]
  congr 1
  field_simp

/-- The two-way share of real scores is a nonnegative real, whatever the real shift. -/
theorem share_real (a b s : ℝ) :
    share a b s = ((Real.exp a / (Real.exp a + Real.exp b) : ℝ) : EReal) := by
  unfold share
  rw [← EReal.coe_sub, ← EReal.coe_sub, Ideal.exp_coe, Ideal.exp_coe, ← EReal.coe_add, div_real _ _ (by positivity)]
  congr 1
  rw [Real.exp_sub, Real.exp_sub]
  have := Real.exp_pos a
  have := Real.exp_pos b
  have := Real.exp_pos s
  field_simp

/-- A finite sum of reals taken among the extended reals. -/
theorem sum_real {n : ℕ} (f : Fin n → ℝ) : ∑ k, (f k : EReal) = ((∑ k, f k : ℝ) : EReal) := by
  have h : ∀ s : Finset (Fin n), ∑ k ∈ s, (f k : EReal) = ((∑ k ∈ s, f k : ℝ) : EReal) := by
    intro s
    induction s using Finset.induction_on with
    | empty => simp
    | insert k s hk ih => rw [Finset.sum_insert hk, Finset.sum_insert hk, ih, EReal.coe_add]
  exact h _

/-- Two probabilities of one softmax over their sum: the two-way share of their scores. -/
theorem prob_ratio (a : Fin 64 → ℝ) (s : ℝ) (i j : Fin 64) :
    Ideal.div (prob (fun e => a e) s i) (prob (fun e => a e) s i + prob (fun e => a e) s j)
      = ((Real.exp (a i) / (Real.exp (a i) + Real.exp (a j)) : ℝ) : EReal) := by
  have hZ : 0 < ∑ e, Real.exp (a e - s) :=
    Finset.sum_pos (fun e _ => Real.exp_pos _) Finset.univ_nonempty
  have hp : ∀ e, prob (fun e => a e) s e = ((Real.exp (a e - s) / ∑ e', Real.exp (a e' - s) : ℝ) : EReal) := by
    intro e
    unfold prob
    simp only [← EReal.coe_sub, Ideal.exp_coe]
    rw [sum_real, div_real _ _ hZ]
  have hpos : ∀ e, 0 < Real.exp (a e - s) / ∑ e', Real.exp (a e' - s) := fun e => div_pos (Real.exp_pos _) hZ
  rw [hp, hp, ← EReal.coe_add, div_real _ _ (add_pos (hpos i) (hpos j))]
  congr 1
  generalize hq : ∑ e', Real.exp (a e' - s) = Z at hZ ⊢
  rw [Real.exp_sub, Real.exp_sub]
  have := Real.exp_pos (a i)
  have := Real.exp_pos (a j)
  have := Real.exp_pos s
  field_simp

/-- The largest of finitely many real scores is real. -/
theorem top_real (a : Fin 64 → ℝ) :
    ∃ s : ℝ, Finset.fold max (Ideal.ofBits FTy.f32 4286578688#32) (fun e => (a e : EReal)) Finset.univ = s := by
  have hb : Ideal.ofBits FTy.f32 4286578688#32 = (⊥ : EReal) := by
    simp [Ideal.ofBits, Ideal.ieee]
  rw [hb]
  have h1 : Finset.fold max (⊥ : EReal) (fun e => (a e : EReal)) Finset.univ < ⊤ :=
    (Finset.fold_max_lt _).2 ⟨bot_lt_top, fun e _ => EReal.coe_lt_top _⟩
  have h2 : (a 0 : EReal) ≤ Finset.fold max (⊥ : EReal) (fun e => (a e : EReal)) Finset.univ :=
    (Finset.le_fold_max _).2 (Or.inr ⟨0, Finset.mem_univ _, le_rfl⟩)
  exact ⟨_, (EReal.coe_toReal h1.ne (ne_of_gt (lt_of_lt_of_le (EReal.bot_lt_coe _) h2))).symm⟩

/-- The score of finite tokens and finite router weights is a real. -/
theorem score_real (X : (⟨2, ![1024, 256]⟩ : Shape).Idx → EReal) (W : (⟨2, ![256, 64]⟩ : Shape).Idx → EReal)
    (hX : ∀ i, ∃ r : ℝ, X i = r) (hW : ∀ i, ∃ r : ℝ, W i = r) (t : Fin 1024) (e : Fin 64) :
    ∃ r : ℝ, score X W t e = r := by
  choose x hx using hX
  choose w hw using hW
  refine ⟨∑ k : Fin 256, x (ix2 t k) * w (ix2 k e), ?_⟩
  unfold score
  rw [← sum_real]
  exact Finset.sum_congr rfl fun k _ => by rw [hx, hw, EReal.coe_mul]

end Cert.Moe
-- ==== Proof.Moe.KernelValue.lean ====
module
public import proofs.«01_k».proof.Proof.Moe.Blocks
public import proofs.«01_k».proof.Proof.Moe.Sums
public import Idealize.ShloMosaic.Lib.ValueLayout
@[expose] public section
/-!
# The kernel's result at one token and one column

Each device's accumulator holds, for every token, the products of its own four experts weighed by
the token's two routing weights: an expert the token is not routed to is weighed with zero. The
block a device sums up adds the sixteen accumulators, so that every expert is added once.
-/
noncomputable section
namespace Cert.Moe
open Cert.KernelIdeal Cert.KernelIdeal.Gen
open Idealize.ShloMosaic
open Idealize.ShloMosaic.TcCoe
section
variable {F : FTy → Type} [FloatOps F] (m : (ℓ : Loc nD τ sig) → Buf (Elt F) ℓ)

/-- What the tokens' load reads: the argument. -/
theorem xv_eq (c : Dev nD) : xv m c = m ((c : Thread nD τ).loc main_arg0) :=
  (Memref.readAt_unit_zero (Elt F) cc0_stg0_0 (by decide) _ _).trans
    (Memref.read_access_unit_zero (Elt F) main_arg0 (off := fun a => 0 * main_arg0.ty.shape.size a)
      (funext fun _ => Nat.zero_mul _) (by decide) _)
/-- What the router weights' load reads: the argument. -/
theorem wv_eq (c : Dev nD) : wv m c = m ((c : Thread nD τ).loc main_arg1) :=
  (Memref.readAt_unit_zero (Elt F) cc0_stg1_0 (by decide) _ _).trans
    (Memref.read_access_unit_zero (Elt F) main_arg1 (off := fun a => 0 * main_arg1.ty.shape.size a)
      (funext fun _ => Nat.zero_mul _) (by decide) _)
/-- What the routing indices' staging buffer holds: the argument. -/
theorem istg_eq (c : Dev nD) : istg m c = m ((c : Thread nD τ).loc main_arg2) :=
  Memref.read_access_unit_zero (Elt F) main_arg2 (off := fun a => 0 * main_arg2.ty.shape.size a)
      (funext fun _ => Nat.zero_mul _) (by decide) _
/-- What the experts' staging buffer holds: the argument. -/
theorem estg_eq (c : Dev nD) : estg m c = m ((c : Thread nD τ).loc main_arg3) :=
  Memref.read_access_unit_zero (Elt F) main_arg3 (off := fun a => 0 * main_arg3.ty.shape.size a)
      (funext fun _ => Nat.zero_mul _) (by decide) _
/-- The first routing column. -/
theorem iv0_apply (c : Dev nD) (t : Fin 1024) :
    iv0 m c (ix2 t 0) = m ((c : Thread nD τ).loc main_arg2) (ix2 t 0) := by
  unfold iv0
  rw [istg_eq]
  refine congrArg (m ((c : Thread nD τ).loc main_arg2)) (funext fun a => Fin.ext ?_)
  match a with
  | ⟨0, _⟩ => show 0 + 1 * t.val = t.val; omega
  | ⟨1, _⟩ => rfl
/-- The second routing column. -/
theorem iv1_apply (c : Dev nD) (t : Fin 1024) :
    iv1 m c (ix2 t 0) = m ((c : Thread nD τ).loc main_arg2) (ix2 t 1) := by
  unfold iv1
  rw [istg_eq]
  refine congrArg (m ((c : Thread nD τ).loc main_arg2)) (funext fun a => Fin.ext ?_)
  match a with
  | ⟨0, _⟩ => show 0 + 1 * t.val = t.val; omega
  | ⟨1, _⟩ => rfl
/-- A load of one local expert's matrix reads the argument there. -/
theorem expert_load (c : Dev nD) (l : Fin 4) (inb : ∀ a, (![l.val, 0, 0] : Fin 3 → Nat) a + S1x256x512.size a ≤ S4x256x512.size a)
    (k : Fin 256) (h : Fin 512) :
    (eM.view.readAt (Elt F) (ewR l inb).toLoadRect (estg m c) : Vec F S1x256x512 .f32) (ix3 0 k h)
      = m ((c : Thread nD τ).loc main_arg3) (ix3 l k h) := by
  rw [estg_eq]
  refine congrArg (m ((c : Thread nD τ).loc main_arg3)) (funext fun a => Fin.ext ?_)
  match a with
  | ⟨0, _⟩ => show l.val + 1 * 0 = l.val; omega
  | ⟨1, _⟩ => show 0 + 1 * k.val = k.val; omega
  | ⟨2, _⟩ => show 0 + 1 * h.val = h.val; omega
/-- The device's number as a word. -/
theorem devW_eq (c : Dev nD) : devW c = BitVec.ofNat 32 c.val := by
  revert c; decide
/-- The number of a device's local expert among all experts. -/
def own (d : Fin 16) (l : Fin 4) : Fin 64 := ⟨4 * d.val + l.val, by omega⟩
/-- The kernel's word for the number of a local expert. -/
theorem own_word (d : Dev nD) (l : Fin 4) :
    Scalar.addi (Scalar.muli (devW d) 4#32) (BitVec.ofNat 32 l.val) = BitVec.ofNat 32 (own d l).val := by
  revert d l; decide
end
/-- Two expert numbers as words are equal only if the numbers are. -/
theorem word_eq_iff (e e' : Fin 64) : BitVec.ofNat 32 e.val = BitVec.ofNat 32 e'.val ↔ e = e' := by
  constructor
  · intro h
    have h' := congrArg BitVec.toNat h
    rw [BitVec.toNat_ofNat, BitVec.toNat_ofNat] at h'
    exact Fin.ext (by omega)
  · rintro rfl; rfl
/-- The comparison of two expert numbers. -/
theorem cmp_word (e e' : Fin 64) :
    IntOp.cmpi .eq (BitVec.ofNat 32 e.val) (BitVec.ofNat 32 e'.val) = if e = e' then 1#1 else 0#1 := by
  by_cases h : e = e'
  · subst h; simp [IntOp.cmpi]
  · have : ¬ BitVec.ofNat 32 e.val = BitVec.ofNat 32 e'.val := fun h' => h ((word_eq_iff e e').1 h')
    rw [if_neg h]
    show BitVec.ofBool (BitVec.ofNat 32 e.val == BitVec.ofNat 32 e'.val) = 0#1
    rw [beq_eq_false_iff_ne.2 this]
    rfl
/-- The one-hot entry: the comparison as a number. -/
theorem hot_word (e e' : Fin 64) :
    (FloatOps.sitofp FTy.f32 (BitVec.setWidth 32 (IntOp.cmpi .eq (BitVec.ofNat 32 e.val) (BitVec.ofNat 32 e'.val))) : Ideal .f32)
      = (if e = e' then 1 else 0 : EReal) := by
  rw [cmp_word]
  by_cases h : e = e'
  · rw [if_pos h, if_pos h]
    show ((((BitVec.setWidth 32 1#1).toInt : ℤ) : ℝ) : EReal) = 1
    rw [show (BitVec.setWidth 32 1#1).toInt = 1 by decide]
    simp
  · rw [if_neg h, if_neg h]
    show ((((BitVec.setWidth 32 0#1).toInt : ℤ) : ℝ) : EReal) = 0
    rw [show (BitVec.setWidth 32 0#1).toInt = 0 by decide]
    simp
/-- A choice on the comparison of two expert numbers. -/
theorem select_word (e e' : Fin 64) (a b : EReal) :
    Scalar.select (IntOp.cmpi .eq (BitVec.ofNat 32 e.val) (BitVec.ofNat 32 e'.val)) a b = if e = e' then a else b := by
  rw [cmp_word]
  by_cases h : e = e' <;> simp [Scalar.select, h]

variable (m : (ℓ : Loc nD τ sig) → Buf (Elt Ideal) ℓ)

/-- The scores device `d` computes for token `t`. -/
def kerScore (d : Dev nD) (t : Fin 1024) (e : Fin 64) : EReal :=
  score (m ((d : Thread nD τ).loc main_arg0)) (m ((d : Thread nD τ).loc main_arg1)) t e

/-- Device `d`'s local expert `l`: its product with token `t`, column `h`. -/
def kerOut (d : Dev nD) (t : Fin 1024) (h : Fin 512) (l : Fin 4) : EReal :=
  ∑ k : Fin 256, HMul.hMul (α := EReal) (β := EReal) (γ := EReal) (m ((d : Thread nD τ).loc main_arg0) (ix2 t k))
    (m ((d : Thread nD τ).loc main_arg3) (ix3 l k h))

/-- The weight of expert `e` for a token routed to `e₀` with weight `p` and to `e₁` with weight `q`. -/
def weight (e₀ e₁ : Fin 64) (p q : ℝ) (e : Fin 64) : ℝ := (if e₀ = e then p else 0) + (if e₁ = e then q else 0)

/-- A weight is not negative. -/
theorem weight_nonneg (e₀ e₁ : Fin 64) (p q : ℝ) (hp : 0 ≤ p) (hq : 0 ≤ q) (e : Fin 64) : 0 ≤ weight e₀ e₁ p q e := by
  unfold weight
  split <;> split <;> simp [hp, hq, add_nonneg]

/-- The kernel's two choices together are the weight. -/
theorem weight_coe (e₀ e₁ : Fin 64) (p q : ℝ) (e : Fin 64) :
    (if e₀ = e then (p : EReal) else 0) + (if e₁ = e then (q : EReal) else 0) = (weight e₀ e₁ p q e : EReal) := by
  unfold weight
  rw [EReal.coe_add]
  congr 1 <;> split <;> simp

set_option maxRecDepth 16384 in
/-- Device `d`'s accumulator: its four experts' products under their weights. -/
theorem acc_apply (d : Dev nD) (t : Fin 1024) (h : Fin 512) (e₀ e₁ : Fin 64) (p q : ℝ) (hp : 0 ≤ p) (hq : 0 ≤ q)
    (h₀ : m ((d : Thread nD τ).loc main_arg2) (ix2 t 0) = BitVec.ofNat 32 e₀.val)
    (h₁ : m ((d : Thread nD τ).loc main_arg2) (ix2 t 1) = BitVec.ofNat 32 e₁.val)
    (hsp : share (kerScore m d t e₀) (kerScore m d t e₁) (max (kerScore m d t e₀) (kerScore m d t e₁)) = p)
    (hsq : Ideal.div (Ideal.exp (kerScore m d t e₁ - max (kerScore m d t e₀) (kerScore m d t e₁)))
      (Ideal.exp (kerScore m d t e₀ - max (kerScore m d t e₀) (kerScore m d t e₁))
        + Ideal.exp (kerScore m d t e₁ - max (kerScore m d t e₀) (kerScore m d t e₁))) = q) :
    (accAt m d (ix2 t h) : EReal)
      = ∑ l : Fin 4, (weight e₀ e₁ p q (own d l) : EReal) * kerOut m d t h l := by
  have w0 : Scalar.addi (Scalar.muli (devW d) 4#32) 0#32 = BitVec.ofNat 32 (own d 0).val := own_word d 0
  have w1 : Scalar.addi (Scalar.muli (devW d) 4#32) 1#32 = BitVec.ofNat 32 (own d 1).val := own_word d 1
  have w2 : Scalar.addi (Scalar.muli (devW d) 4#32) 2#32 = BitVec.ofNat 32 (own d 2).val := own_word d 2
  have w3 : Scalar.addi (Scalar.muli (devW d) 4#32) 3#32 = BitVec.ofNat 32 (own d 3).val := own_word d 3
  have l0 : ∀ k, ev0 m d (ix3 0 k h) = m ((d : Thread nD τ).loc main_arg3) (ix3 0 k h) := fun k => expert_load m d 0 _ k h
  have l1 : ∀ k, ev1 m d (ix3 0 k h) = m ((d : Thread nD τ).loc main_arg3) (ix3 1 k h) := fun k => expert_load m d 1 _ k h
  have l2 : ∀ k, ev2 m d (ix3 0 k h) = m ((d : Thread nD τ).loc main_arg3) (ix3 2 k h) := fun k => expert_load m d 2 _ k h
  have l3 : ∀ k, ev3 m d (ix3 0 k h) = m ((d : Thread nD τ).loc main_arg3) (ix3 3 k h) := fun k => expert_load m d 3 _ k h
  have hs : ∀ e, ∑ k, HMul.hMul (α := EReal) (β := EReal) (γ := EReal) (m ((d : Thread nD τ).loc main_arg0) (ix2 t k)) (m ((d : Thread nD τ).loc main_arg1) (ix2 k e))
      = kerScore m d t e := fun _ => rfl
  have hout : ∀ l, (weight e₀ e₁ p q (own d l) : EReal) * kerOut m d t h l
      = ∑ k : Fin 256, HMul.hMul (α := EReal) (β := EReal) (γ := EReal)
        (HMul.hMul (α := EReal) (β := EReal) (γ := EReal) (m ((d : Thread nD τ).loc main_arg0) (ix2 t k)) (weight e₀ e₁ p q (own d l) : EReal))
        (m ((d : Thread nD τ).loc main_arg3) (ix3 l k h)) := fun l =>
    (weight_out _ _ _ (weight_nonneg e₀ e₁ p q hp hq _)).symm
  rw [Fin.sum_univ_four, hout, hout, hout, hout]
  unfold share at hsp
  pointwise [accAt, k0_pay16, k0_pay15, k0_pay14, k0_pay13, k0_pay12, k0_pay11, k0_pay10, k0_pay9, k0_pay8, k0_pay7,
    k0_pay6, k0_pay5, k0_pay4, k0_pay3, k0_pay2, k0_pay1, xv_eq, wv_eq, iv0_apply, iv1_apply]
  simp only [w0, w1, w2, w3, l0, l1, l2, l3, h₀, h₁, hot_word, select_word, onehot_sum, hs, hsp, hsq, weight_coe]

/-- A slab read at its one plane is the block. -/
theorem slab_apply (X : Vec Ideal S64x512 .f32) (r : Fin 64) (h : Fin 512) : slab X (ix3 0 r h) = X (ix2 r h) := by
  exact congrArg X ((Equiv.symm_apply_eq _).2 (ValueIdx.reshapeEquiv_ix2_1ab _ r h).symm)

/-- Going back twice from a device's own place is where one was. -/
theorem bwd_bwd (c : Dev nD) : Function.Involutive (bwd c) := fun o => Fin.ext (by
  have hc : c.val < 16 := c.isLt
  have ho : o.val < 16 := o.isLt
  show (c.val + 16 - (c.val + 16 - o.val) % 16) % 16 = o.val
  omega)

/-- A sum of sixteen, spelt out from the left. -/
theorem sum_sixteen (f : Fin 16 → EReal) : ∑ o, f o
    = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

/-- The block device `c` sums up holds the sum of all sixteen accumulators' rows. -/
theorem red_apply (c : Dev nD) (r : Fin 64) (h : Fin 512) :
    (red m c (ix2 r h) : EReal) = ∑ d : Fin 16, accRow m d c (ix2 r h) := by
  have hb : bwd c 0 = c := Fin.ext (by
    have hc : c.val < 16 := c.isLt
    show (c.val + 16 - 0) % 16 = c.val
    omega)
  have hsum : ∑ d : Fin 16, (accRow m d c (ix2 r h) : EReal) = ∑ o : Fin 16, (accRow m (bwd c o) c (ix2 r h) : EReal) :=
    (Equiv.sum_comp (bwd_bwd c).toPerm fun d : Fin 16 => (accRow m d c (ix2 r h) : EReal)).symm
  rw [hsum, sum_sixteen, hb]
  pointwise [red, k0_pay23, k0_pay22, k0_pay21, k0_pay20, k0_pay19, k0_pay18, k0_pay17, got, slab_apply]

/-- The result at token `t`, column `h`: every expert's product under its weight. -/
theorem out_apply (t : Fin 1024) (h : Fin 512) (e₀ e₁ : Fin 64) (p q : ℝ) (hp : 0 ≤ p) (hq : 0 ≤ q) (S : Fin 64 → EReal)
    (hacc : ∀ d : Fin 16, (accAt m d (ix2 t h) : EReal) = ∑ l : Fin 4, (weight e₀ e₁ p q (own d l) : EReal) * S (own d l)) :
    (out m (ix2 t h) : EReal) = (p : EReal) * S e₀ + (q : EReal) * S e₁ := by
  have ht : (rowsR ⟨t.val / 64, by omega⟩).emb (ix2 (⟨t.val % 64, by omega⟩ : Fin 64) h) = ix2 t h := by
    refine funext fun a => Fin.ext ?_
    match a with
    | ⟨0, _⟩ =>
      refine (emb_rows_val _ _).1.trans ?_
      show 64 * (t.val / 64) + t.val % 64 = t.val
      omega
    | ⟨1, _⟩ =>
      exact (emb_rows_val _ _).2
  rw [← ht, out_emb, red_apply]
  have hrow : ∀ d : Fin 16, (accRow m d ⟨t.val / 64, by omega⟩ (ix2 (⟨t.val % 64, by omega⟩ : Fin 64) h) : EReal)
      = ∑ l : Fin 4, (weight e₀ e₁ p q (own d l) : EReal) * S (own d l) := fun d => by
    unfold accRow
    rw [ht]
    exact hacc d
  refine (Finset.sum_congr rfl fun d _ => hrow d).trans ?_
  refine (Fintype.sum_prod_type' fun (d : Fin 16) (l : Fin 4) => (weight e₀ e₁ p q (own d l) : EReal) * S (own d l)).symm.trans ?_
  rw [← routed_sum S p q hp hq e₀ e₁]
  refine Fintype.sum_bijective (fun x : Fin 16 × Fin 4 => own x.1 x.2) ?_ _ _ fun x => rfl
  refine (Fintype.bijective_iff_injective_and_card _).2 ⟨fun x y hxy => ?_, by simp⟩
  have hv : 4 * x.1.val + x.2.val = 4 * y.1.val + y.2.val := congrArg Fin.val hxy
  exact Prod.ext (Fin.ext (by omega)) (Fin.ext (by omega))
end Cert.Moe
-- ==== Proof.Moe.ReferenceValue.lean ====
module
public import proofs.«01_k».proof.Proof.Gen.ReferenceIdeal.Run
public import proofs.«01_k».proof.Proof.Moe.Sums
@[expose] public section
/-!
# The reference's result at one token and one column

The reference takes a softmax over all sixty-four experts, picks the two routed experts'
probabilities, divides each by their sum and weighs the two experts' products with them. Its two
gathers are read here at a place, and the whole result is brought to that formula.
-/
noncomputable section
namespace Cert.Moe
open Cert.ReferenceIdeal Cert.ReferenceIdeal.Gen Cert.ReferenceIdeal.Value
open Idealize.ShloMosaic
open Idealize.ShloMosaic.TcCoe

/-- The position a start index names on an axis of `n` places: read signed, held inside. -/
def place (n : ℕ) (hn : 0 < n) (w : BitVec 32) : Fin n := ⟨min w.toInt.toNat (n - 1), by omega⟩

/-- A number in range, put through the correction for negative indices, names itself. -/
theorem place_self (n : ℕ) (hn : 0 < n) (hs : n ≤ 1024) (k : BitVec 32) (e : Fin n) :
    place n hn (Scalar.select (IntOp.cmpi .slt (BitVec.ofNat 32 e.val) 0#32)
      (IntOp.addi (BitVec.ofNat 32 e.val) k) (BitVec.ofNat 32 e.val)) = e := by
  have he := e.isLt
  have hi : (BitVec.ofNat 32 e.val).toInt = (e.val : ℤ) := by
    rw [BitVec.toInt_eq_toNat_of_lt (by rw [BitVec.toNat_ofNat]; omega), BitVec.toNat_ofNat]
    omega
  have hc : IntOp.cmpi .slt (BitVec.ofNat 32 e.val) 0#32 = 0#1 := by
    have : (BitVec.ofNat 32 e.val).slt 0#32 = false := by
      rw [BitVec.slt, hi]
      simp
    simp [IntOp.cmpi, this]
  rw [hc]
  refine Fin.ext ?_
  show min (BitVec.ofNat 32 e.val).toInt.toNat (n - 1) = e.val
  rw [hi]
  omega

/-- The gather of single probabilities: each token reads the place its two start indices name. -/
theorem pick_apply {α : Type} (x : S1024x64.Idx → α) (idx : IVec S1024x2 32) (t : Fin 1024) :
    Host.gather gather_S1024x64_S1024x2_S1024_n_01_n_n_01_1_11 x idx (ix1 t)
      = x (ix2 (place 1024 (by decide) (idx (ix2 t 0))) (place 64 (by decide) (idx (ix2 t 1)))) := by
  refine congrArg x (funext fun a => Fin.ext ?_)
  match a with
  | ⟨0, _⟩ =>
    show min (idx _).toInt.toNat 1023 = min (idx _).toInt.toNat 1023
    refine congrArg (fun q => min (idx q).toInt.toNat 1023) (funext fun b => Fin.ext ?_)
    match b with
    | ⟨0, _⟩ => rfl
    | ⟨1, _⟩ => rfl
  | ⟨1, _⟩ =>
    show min (idx _).toInt.toNat 63 = min (idx _).toInt.toNat 63
    refine congrArg (fun q => min (idx q).toInt.toNat 63) (funext fun b => Fin.ext ?_)
    match b with
    | ⟨0, _⟩ => rfl
    | ⟨1, _⟩ => rfl

/-- The gather of experts: each token reads the whole matrix of the expert it names. -/
theorem take_apply {α : Type} (x : S64x256x512.Idx → α) (idx : IVec S1024x1 32) (t : Fin 1024)
    (k : Fin 256) (h : Fin 512) :
    Host.gather gather_S64x256x512_S1024x1_S1024x256x512_12_0_n_n_0_1_1256512 x idx (ix3 t k h)
      = x (ix3 (place 64 (by decide) (idx (ix2 t 0))) k h) := by
  refine congrArg x (funext fun a => Fin.ext ?_)
  match a with
  | ⟨0, _⟩ =>
    show min (idx _).toInt.toNat 63 = min (idx _).toInt.toNat 63
    refine congrArg (fun q => min (idx q).toInt.toNat 63) (funext fun b => Fin.ext ?_)
    match b with
    | ⟨0, _⟩ => rfl
    | ⟨1, _⟩ => rfl
  | ⟨1, _⟩ =>
    show 0 + 0 + k.val = k.val
    omega
  | ⟨2, _⟩ =>
    show 0 + 0 + h.val = h.val
    omega

variable (m : (ℓ : Loc nD τ sig) → Buf (Elt Ideal) ℓ)

/-- The scores the reference computes for token `t`. -/
def refScore (c : Dev nD) (t : Fin 1024) (e : Fin 64) : EReal :=
  score (m ((c.tc : Thread nD τ).loc main_arg0)) (m ((c.tc : Thread nD τ).loc main_arg1)) t e

/-- The probability the reference's softmax gives expert `e` for token `t`. -/
def refProb (c : Dev nD) (t : Fin 1024) (e : Fin 64) : EReal :=
  prob (refScore m c t)
    (Finset.fold max (Ideal.ofBits FTy.f32 4286578688#32) (fun e' => refScore m c t e') Finset.univ) e

/-- Expert `e`'s product with token `t`, column `h`, as the reference computes it. -/
def refOut (c : Dev nD) (t : Fin 1024) (h : Fin 512) (e : Fin 64) : EReal :=
  expert (m ((c.tc : Thread nD τ).loc main_arg0)) (m ((c.tc : Thread nD τ).loc main_arg3)) t h e

set_option maxRecDepth 16384 in
/-- The reference's result: the two routed experts' products, weighed by their probabilities over
the sum of the two. -/
theorem res_apply (c : Dev nD) (t : Fin 1024) (h : Fin 512) (e₀ e₁ : Fin 64)
    (h₀ : m ((c.tc : Thread nD τ).loc main_arg2) (ix2 t 0) = BitVec.ofNat 32 e₀.val)
    (h₁ : m ((c.tc : Thread nD τ).loc main_arg2) (ix2 t 1) = BitVec.ofNat 32 e₁.val) :
    (res_main_v68 m c (ix2 t h) : EReal)
      = Ideal.div (refProb m c t e₀) (refProb m c t e₀ + refProb m c t e₁) * refOut m c t h e₀
        + Ideal.div (refProb m c t e₁) (refProb m c t e₀ + refProb m c t e₁) * refOut m c t h e₁ := by
  pointwise [res_main_v68, pick_apply, take_apply]
  simp only [h₀, h₁, place_self 64 (by decide) (by decide), place_self 1024 (by decide) (by decide)]
  rfl

end Cert.Moe
-- ==== Proof.Moe.Value.lean ====
module
public import proofs.«01_k».proof.Defs
public import proofs.«01_k».proof.Proof.Moe.Run
public import proofs.«01_k».proof.Proof.Moe.Frames
public import proofs.«01_k».proof.Proof.Moe.KernelValue
public import proofs.«01_k».proof.Proof.Moe.ReferenceValue
@[expose] public section
/-!
# The kernel's result is the reference's

What the precondition says of the arguments, and the two results put together: at every token and
column both are the two routed experts' products under the two-way softmax of their scores.
-/
noncomputable section
namespace Cert.Moe
open Idealize.ShloMosaic
open Idealize.ShloMosaic.TcCoe

/-- A number that compares below infinity in absolute value is a real. -/
theorem real_of_finite (x : EReal)
    (h : Ideal.cmp .olt (max x (-x)) (Ideal.ofBits FTy.f32 0x7F800000#32) = 1#1) : ∃ r : ℝ, x = r := by
  have hb : Ideal.ofBits FTy.f32 0x7F800000#32 = (⊤ : EReal) := by
    simp [Ideal.ofBits, Ideal.ieee]
  rw [hb] at h
  induction x using EReal.rec with
  | bot => simp [Ideal.cmp] at h
  | top => simp [Ideal.cmp] at h
  | coe r => exact ⟨r, rfl⟩

/-- A word at least zero and below sixty-four is an expert's number. -/
theorem expert_of_range (w : BitVec 32) (h : IntOp.andi (IntOp.cmpi .sge w 0#32) (IntOp.cmpi .slt w 64#32) = 1#1) :
    ∃ e : Fin 64, w = BitVec.ofNat 32 e.val := by
  have h1 : (0#32).sle w = true ∧ w.slt 64#32 = true := by
    revert h
    show BitVec.ofBool ((0#32).sle w) &&& BitVec.ofBool (w.slt 64#32) = 1#1 → _
    cases (0#32).sle w <;> cases w.slt 64#32 <;> decide
  have h0 : 0 ≤ w.toInt := by simpa [BitVec.sle] using h1.1
  have h2 : w.toInt < 64 := by simpa [BitVec.slt] using h1.2
  have hn : (w.toNat : ℤ) = w.toInt := by
    rw [BitVec.toInt_eq_toNat_cond] at h0 h2 ⊢
    have := w.isLt
    split at h0 <;> omega
  refine ⟨⟨w.toNat, by omega⟩, ?_⟩
  exact (BitVec.ofNat_toNat 32 w ▸ by simp)

section
variable [Cert.Pre_routed_KernelIdeal.Facts]
  (a0 : (⟨2, ![1024, 256]⟩ : Shape).Idx → EReal) (a1 : (⟨2, ![256, 64]⟩ : Shape).Idx → EReal)
  (a2 : (⟨2, ![1024, 2]⟩ : Shape).Idx → BitVec 32) (a3 : (⟨3, ![4, 256, 512]⟩ : Shape).Idx → EReal)
/-- The precondition's first part: the tokens are reals. -/
theorem pre_tokens (h : (Cert.Pre_routed_KernelIdeal.fn (F := Ideal) a0 a1 a2 a3).1 = fun _ => 1#1) :
    ∀ i, ∃ r : ℝ, a0 i = r := fun i => real_of_finite _ (congrFun h i)
/-- Its second part: the router weights are reals. -/
theorem pre_router (h : (Cert.Pre_routed_KernelIdeal.fn (F := Ideal) a0 a1 a2 a3).2.1 = fun _ => 1#1) :
    ∀ i, ∃ r : ℝ, a1 i = r := fun i => real_of_finite _ (congrFun h i)
/-- Its third part: the routing indices are experts' numbers. -/
theorem pre_index (h : (Cert.Pre_routed_KernelIdeal.fn (F := Ideal) a0 a1 a2 a3).2.2 = fun _ => 1#1) :
    ∀ i, ∃ e : Fin 64, a2 i = BitVec.ofNat 32 e.val := fun i => expert_of_range _ (congrFun h i)
end

/-- A device's local expert `l` is expert `own d l` of all of them. -/
theorem block_expert (E : (⟨3, ![64, 256, 512]⟩ : Shape).Idx → EReal) (d : Fin 16) (l : Fin 4) (k : Fin 256) (h : Fin 512) :
    Layout.block ⟨3, ![4, 256, 512]⟩ ⟨3, ![64, 256, 512]⟩ 0 16 d E (by decide) (ix3 l k h) = E (ix3 (own d l) k h) := by
  refine congrArg E (funext fun a => Fin.ext ?_)
  match a with
  | ⟨0, _⟩ =>
    show d.val * 4 + l.val = 4 * d.val + l.val
    omega
  | ⟨1, _⟩ => rfl
  | ⟨2, _⟩ => rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c' : Dev Cert.ReferenceIdeal.nD)
/-- The two results at token `t`, column `h`, on the arguments the precondition describes. -/
theorem out_eq_at (t : Fin 1024) (h : Fin 512) [Cert.Pre_routed_KernelIdeal.Facts]
    (hpre : Pre_KernelIdeal_routed_KernelIdeal m)
    (h0 : ∀ d : Dev Cert.KernelIdeal.nD, m (d.tc.loc Cert.KernelIdeal.main_arg0) = m' (c'.tc.loc Cert.ReferenceIdeal.main_arg0))
    (h1 : ∀ d : Dev Cert.KernelIdeal.nD, m (d.tc.loc Cert.KernelIdeal.main_arg1) = m' (c'.tc.loc Cert.ReferenceIdeal.main_arg1))
    (h2 : ∀ d : Dev Cert.KernelIdeal.nD, m (d.tc.loc Cert.KernelIdeal.main_arg2) = m' (c'.tc.loc Cert.ReferenceIdeal.main_arg2))
    (h3 : ∀ d : Dev Cert.KernelIdeal.nD, m (d.tc.loc Cert.KernelIdeal.main_arg3)
      = Layout.block ⟨3, ![4, 256, 512]⟩ ⟨3, ![64, 256, 512]⟩ 0 16 d (m' (c'.tc.loc Cert.ReferenceIdeal.main_arg3)) (by decide)) :
    (out m (ix2 t h) : EReal) = Cert.ReferenceIdeal.Value.res_main_v68 m' c' (ix2 t h) := by
  have hX : ∀ i, ∃ r : ℝ, m' (c'.tc.loc Cert.ReferenceIdeal.main_arg0) i = (r : EReal) := fun i => by
    rw [← h0 0]
    exact pre_tokens _ _ _ _ (hpre 0).1 i
  have hW : ∀ i, ∃ r : ℝ, m' (c'.tc.loc Cert.ReferenceIdeal.main_arg1) i = (r : EReal) := fun i => by
    rw [← h1 0]
    exact pre_router _ _ _ _ (hpre 0).2.1 i
  have hI : ∀ i, ∃ e : Fin 64, m' (c'.tc.loc Cert.ReferenceIdeal.main_arg2) i = BitVec.ofNat 32 e.val := fun i => by
    rw [← h2 0]
    exact pre_index _ _ _ _ (hpre 0).2.2 i
  obtain ⟨e₀, he₀⟩ := hI (ix2 t 0)
  obtain ⟨e₁, he₁⟩ := hI (ix2 t 1)
  have hs : ∀ e, ∃ r : ℝ, refScore m' c' t e = r := score_real _ _ hX hW t
  choose a ha using hs
  have hk : ∀ d e, kerScore m d t e = (a e : EReal) := fun d e => by
    rw [← ha]
    unfold kerScore refScore
    rw [h0 d, h1 d]
  have hmax : max (a e₀ : EReal) (a e₁ : EReal) = ((max (a e₀) (a e₁) : ℝ) : EReal) :=
    (EReal.coe_strictMono.monotone.map_max).symm
  have hpos : 0 < Real.exp (a e₀) + Real.exp (a e₁) := _root_.add_pos (Real.exp_pos _) (Real.exp_pos _)
  have hacc : ∀ d : Fin 16, (accAt m d (ix2 t h) : EReal)
      = ∑ l : Fin 4, (weight e₀ e₁ (Real.exp (a e₀) / (Real.exp (a e₀) + Real.exp (a e₁)))
          (Real.exp (a e₁) / (Real.exp (a e₀) + Real.exp (a e₁))) (own d l) : EReal) * refOut m' c' t h (own d l) := fun d => by
    rw [acc_apply m d t h e₀ e₁ _ _ (div_pos (Real.exp_pos _) hpos).le (div_pos (Real.exp_pos _) hpos).le
      ((congrFun (h2 d) _).trans he₀) ((congrFun (h2 d) _).trans he₁)
      (by rw [hk, hk, hmax]; exact share_real _ _ _)
      (by
        rw [hk, hk, hmax, add_comm (Ideal.exp _), add_comm (Real.exp (a e₀))]
        exact share_real _ _ _)]
    refine Finset.sum_congr (M := EReal) rfl fun l _ => congrArg _ ?_
    unfold kerOut refOut expert
    rw [h0 d, h3 d]
    exact Finset.sum_congr rfl fun k _ => congrArg _ (block_expert _ d l k h)
  refine (out_apply m t h e₀ e₁ _ _ (div_pos (Real.exp_pos _) hpos).le (div_pos (Real.exp_pos _) hpos).le _ hacc).trans ?_
  refine Eq.trans ?_ (res_apply m' c' t h e₀ e₁ he₀ he₁).symm
  obtain ⟨s, hs⟩ := top_real a
  have hp : ∀ e, refProb m' c' t e = prob (fun e => (a e : EReal)) s e := fun e => by
    unfold refProb
    rw [show refScore m' c' t = fun e => (a e : EReal) from funext ha]
    exact congrArg (fun z => prob _ z e) hs
  rw [hp, hp, prob_ratio, add_comm (prob _ _ e₀), prob_ratio, add_comm (Real.exp (a e₁))]
/-- The kernel's result is the reference's. -/
theorem out_eq [Cert.Pre_routed_KernelIdeal.Facts]
    (hpre : Pre_KernelIdeal_routed_KernelIdeal m)
    (h0 : ∀ d : Dev Cert.KernelIdeal.nD, m (d.tc.loc Cert.KernelIdeal.main_arg0) = m' (c'.tc.loc Cert.ReferenceIdeal.main_arg0))
    (h1 : ∀ d : Dev Cert.KernelIdeal.nD, m (d.tc.loc Cert.KernelIdeal.main_arg1) = m' (c'.tc.loc Cert.ReferenceIdeal.main_arg1))
    (h2 : ∀ d : Dev Cert.KernelIdeal.nD, m (d.tc.loc Cert.KernelIdeal.main_arg2) = m' (c'.tc.loc Cert.ReferenceIdeal.main_arg2))
    (h3 : ∀ d : Dev Cert.KernelIdeal.nD, m (d.tc.loc Cert.KernelIdeal.main_arg3)
      = Layout.block ⟨3, ![4, 256, 512]⟩ ⟨3, ![64, 256, 512]⟩ 0 16 d (m' (c'.tc.loc Cert.ReferenceIdeal.main_arg3)) (by decide)) :
    out m = Cert.ReferenceIdeal.Value.res_main_v68 m' c' := by
  funext x
  have hx : x = ix2 (x 0 : Fin 1024) (x 1 : Fin 512) := funext fun a => match a with
    | ⟨0, _⟩ => rfl
    | ⟨1, _⟩ => rfl
  exact (congrArg (out m) hx).trans
    ((out_eq_at m m' c' (x 0) (x 1) hpre h0 h1 h2 h3).trans (congrArg (Cert.ReferenceIdeal.Value.res_main_v68 m' c') hx.symm))
end

open Idealize.SL.Sem in
/-- The value claim: on every device the kernel ends with the reference's result. -/
theorem value [Cert.Pre_routed_KernelIdeal.Facts] :
    algebraic_KernelIdeal_ReferenceIdeal_pre_routed_KernelIdeal (hKernelIdeal := Cert.KernelIdeal.Gen.facts)
      (hReferenceIdeal := Cert.ReferenceIdeal.Gen.facts) := by
  intro m g m' g' hpre hargs
  refine ⟨Cert.ReferenceIdeal.Value.res_main_v68 m' 0, ?_, ?_⟩
  · refine (θ_run _ _ _).mono (fun r hr c => ⟨(hr.1 c).1.trans ?_, (hr.1 c).2⟩) (runs m g)
    exact out_eq m m' 0 hpre (fun d => (hargs d).1) (fun d => (hargs d).2.1) (fun d => (hargs d).2.2.1)
      (fun d => (hargs d).2.2.2)
  · exact (θ_run _ _ _).mono (fun r hr => hr 0) (Cert.ReferenceIdeal.Value.run m' g')
end Cert.Moe
-- ==== Proof.lean ====
module

public import proofs.«01_k».proof.Defs
public import proofs.«01_k».proof.Proof.Moe.Frames
public import proofs.«01_k».proof.Proof.Moe.Value

@[expose] public section

noncomputable section

namespace Cert.Proof

theorem claim : Cert.Claim :=
  ⟨Cert.Kernel.Gen.facts, Cert.KernelIdeal.Gen.facts, Cert.ReferenceIdeal.Gen.facts,
    Cert.Moe.preKernelFacts, Cert.Moe.preReferenceFacts,
    Cert.Moe.frame_kernel, Cert.Moe.frame_ideal, @Cert.Moe.frame_ideal_pre Cert.Moe.preKernelFacts,
    Cert.Moe.frame_reference, @Cert.Moe.frame_reference_pre Cert.Moe.preReferenceFacts,
    trivial, @Cert.Moe.value Cert.Moe.preKernelFacts⟩

end Cert.Proof

end
